-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8)
      ∧ r.2.mem ((c.tc : Thread Cert.Sgu.nD Cert.Sgu.τ).loc Cert.Sgu.main_arg9) = m ((c.tc : Thread Cert.Sgu.nD Cert.Sgu.τ).loc Cert.Sgu.main_arg9))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8)
      ∧ r.2.mem ((c.tc : Thread Cert.SguRefIdeal.nD Cert.SguRefIdeal.τ).loc Cert.SguRefIdeal.main_arg9) = m ((c.tc : Thread Cert.SguRefIdeal.nD Cert.SguRefIdeal.τ).loc Cert.SguRefIdeal.main_arg9))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3)
      ∧ r.2.mem ((c.tc : Thread Cert.AbIn.nD Cert.AbIn.τ).loc Cert.AbIn.main_arg4) = m ((c.tc : Thread Cert.AbIn.nD Cert.AbIn.τ).loc Cert.AbIn.main_arg4)
      ∧ r.2.mem ((c.tc : Thread Cert.AbIn.nD Cert.AbIn.τ).loc Cert.AbIn.main_arg5) = m ((c.tc : Thread Cert.AbIn.nD Cert.AbIn.τ).loc Cert.AbIn.main_arg5)
      ∧ r.2.mem ((c.tc : Thread Cert.AbIn.nD Cert.AbIn.τ).loc Cert.AbIn.main_arg6) = m ((c.tc : Thread Cert.AbIn.nD Cert.AbIn.τ).loc Cert.AbIn.main_arg6)
      ∧ r.2.mem ((c.tc : Thread Cert.AbIn.nD Cert.AbIn.τ).loc Cert.AbIn.main_arg7) = m ((c.tc : Thread Cert.AbIn.nD Cert.AbIn.τ).loc Cert.AbIn.main_arg7)
      ∧ r.2.mem ((c.tc : Thread Cert.AbIn.nD Cert.AbIn.τ).loc Cert.AbIn.main_arg8) = m ((c.tc : Thread Cert.AbIn.nD Cert.AbIn.τ).loc Cert.AbIn.main_arg8))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
      ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
      ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
      ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6)
      ∧ r.2.mem ((c.tc : Thread Cert.AbInIdeal.nD Cert.AbInIdeal.τ).loc Cert.AbInIdeal.main_arg7) = m ((c.tc : Thread Cert.AbInIdeal.nD Cert.AbInIdeal.τ).loc Cert.AbInIdeal.main_arg7)
      ∧ r.2.mem ((c.tc : Thread Cert.AbInIdeal.nD Cert.AbInIdeal.τ).loc Cert.AbInIdeal.main_arg8) = m ((c.tc : Thread Cert.AbInIdeal.nD Cert.AbInIdeal.τ).loc Cert.AbInIdeal.main_arg8))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3)
      ∧ r.2.mem ((c.tc : Thread Cert.AbInRefIdeal.nD Cert.AbInRefIdeal.τ).loc Cert.AbInRefIdeal.main_arg4) = m ((c.tc : Thread Cert.AbInRefIdeal.nD Cert.AbInRefIdeal.τ).loc Cert.AbInRefIdeal.main_arg4)
      ∧ r.2.mem ((c.tc : Thread Cert.AbInRefIdeal.nD Cert.AbInRefIdeal.τ).loc Cert.AbInRefIdeal.main_arg5) = m ((c.tc : Thread Cert.AbInRefIdeal.nD Cert.AbInRefIdeal.τ).loc Cert.AbInRefIdeal.main_arg5)
      ∧ r.2.mem ((c.tc : Thread Cert.AbInRefIdeal.nD Cert.AbInRefIdeal.τ).loc Cert.AbInRefIdeal.main_arg6) = m ((c.tc : Thread Cert.AbInRefIdeal.nD Cert.AbInRefIdeal.τ).loc Cert.AbInRefIdeal.main_arg6)
      ∧ r.2.mem ((c.tc : Thread Cert.AbInRefIdeal.nD Cert.AbInRefIdeal.τ).loc Cert.AbInRefIdeal.main_arg7) = m ((c.tc : Thread Cert.AbInRefIdeal.nD Cert.AbInRefIdeal.τ).loc Cert.AbInRefIdeal.main_arg7)
      ∧ r.2.mem ((c.tc : Thread Cert.AbInRefIdeal.nD Cert.AbInRefIdeal.τ).loc Cert.AbInRefIdeal.main_arg8) = m ((c.tc : Thread Cert.AbInRefIdeal.nD Cert.AbInRefIdeal.τ).loc Cert.AbInRefIdeal.main_arg8))
      ∧ r.2.sem = fun _ => 0)

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v100) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)
      ∧ m' ((c.tc : Thread Cert.SguRefIdeal.nD Cert.SguRefIdeal.τ).loc Cert.SguRefIdeal.main_arg9) = m ((c.tc : Thread Cert.SguIdeal.nD Cert.SguIdeal.τ).loc Cert.SguIdeal.main_arg9)) →
    ∃ (v0 : (c : Dev Cert.SguIdeal.nD) → Buf (Elt Ideal) ((c.tc : Thread Cert.SguIdeal.nD Cert.SguIdeal.τ).loc Cert.SguIdeal.main_v9)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v9) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
          ∧ r.2.mem ((c.tc : Thread Cert.SguIdeal.nD Cert.SguIdeal.τ).loc Cert.SguIdeal.main_arg9) = m ((c.tc : Thread Cert.SguIdeal.nD Cert.SguIdeal.τ).loc Cert.SguIdeal.main_arg9))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v64) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8)
          ∧ r.2.mem ((c.tc : Thread Cert.SguRefIdeal.nD Cert.SguRefIdeal.τ).loc Cert.SguRefIdeal.main_arg9) = m' ((c.tc : Thread Cert.SguRefIdeal.nD Cert.SguRefIdeal.τ).loc Cert.SguRefIdeal.main_arg9))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)) →
    ∃ (v0 : (c : Dev Cert.AbOutIdeal.nD) → Buf (Elt Ideal) ((c.tc : Thread Cert.AbOutIdeal.nD Cert.AbOutIdeal.τ).loc Cert.AbOutIdeal.main_v4)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v4) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v7) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v3)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v3) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)
      ∧ m' ((c.tc : Thread Cert.AbInRefIdeal.nD Cert.AbInRefIdeal.τ).loc Cert.AbInRefIdeal.main_arg4) = m ((c.tc : Thread Cert.AbInIdeal.nD Cert.AbInIdeal.τ).loc Cert.AbInIdeal.main_arg4)
      ∧ m' ((c.tc : Thread Cert.AbInRefIdeal.nD Cert.AbInRefIdeal.τ).loc Cert.AbInRefIdeal.main_arg5) = m ((c.tc : Thread Cert.AbInIdeal.nD Cert.AbInIdeal.τ).loc Cert.AbInIdeal.main_arg5)
      ∧ m' ((c.tc : Thread Cert.AbInRefIdeal.nD Cert.AbInRefIdeal.τ).loc Cert.AbInRefIdeal.main_arg6) = m ((c.tc : Thread Cert.AbInIdeal.nD Cert.AbInIdeal.τ).loc Cert.AbInIdeal.main_arg6)
      ∧ m' ((c.tc : Thread Cert.AbInRefIdeal.nD Cert.AbInRefIdeal.τ).loc Cert.AbInRefIdeal.main_arg7) = m ((c.tc : Thread Cert.AbInIdeal.nD Cert.AbInIdeal.τ).loc Cert.AbInIdeal.main_arg7)
      ∧ m' ((c.tc : Thread Cert.AbInRefIdeal.nD Cert.AbInRefIdeal.τ).loc Cert.AbInRefIdeal.main_arg8) = m ((c.tc : Thread Cert.AbInIdeal.nD Cert.AbInIdeal.τ).loc Cert.AbInIdeal.main_arg8)) →
    ∃ (v0 : (c : Dev Cert.AbInIdeal.nD) → Buf (Elt Ideal) ((c.tc : Thread Cert.AbInIdeal.nD Cert.AbInIdeal.τ).loc Cert.AbInIdeal.main_v29_0)) (v1 : (c : Dev Cert.AbInIdeal.nD) → Buf (Elt Ideal) ((c.tc : Thread Cert.AbInIdeal.nD Cert.AbInIdeal.τ).loc Cert.AbInIdeal.main_v29_1)) (v2 : (c : Dev Cert.AbInIdeal.nD) → Buf (Elt Ideal) ((c.tc : Thread Cert.AbInIdeal.nD Cert.AbInIdeal.τ).loc Cert.AbInIdeal.main_v29_2)) (v3 : (c : Dev Cert.AbInIdeal.nD) → Buf (Elt Ideal) ((c.tc : Thread Cert.AbInIdeal.nD Cert.AbInIdeal.τ).loc Cert.AbInIdeal.main_v29_3)) (v4 : (c : Dev Cert.AbInIdeal.nD) → Buf (Elt Ideal) ((c.tc : Thread Cert.AbInIdeal.nD Cert.AbInIdeal.τ).loc Cert.AbInIdeal.main_v29_4)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v29_0) = v0 c
          ∧ r.2.mem ((c.tc : Thread Cert.AbInIdeal.nD Cert.AbInIdeal.τ).loc Cert.AbInIdeal.main_v29_1) = v1 c
          ∧ r.2.mem ((c.tc : Thread Cert.AbInIdeal.nD Cert.AbInIdeal.τ).loc Cert.AbInIdeal.main_v29_2) = v2 c
          ∧ r.2.mem ((c.tc : Thread Cert.AbInIdeal.nD Cert.AbInIdeal.τ).loc Cert.AbInIdeal.main_v29_3) = v3 c
          ∧ r.2.mem ((c.tc : Thread Cert.AbInIdeal.nD Cert.AbInIdeal.τ).loc Cert.AbInIdeal.main_v29_4) = v4 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
          ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
          ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
          ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6)
          ∧ r.2.mem ((c.tc : Thread Cert.AbInIdeal.nD Cert.AbInIdeal.τ).loc Cert.AbInIdeal.main_arg7) = m ((c.tc : Thread Cert.AbInIdeal.nD Cert.AbInIdeal.τ).loc Cert.AbInIdeal.main_arg7)
          ∧ r.2.mem ((c.tc : Thread Cert.AbInIdeal.nD Cert.AbInIdeal.τ).loc Cert.AbInIdeal.main_arg8) = m ((c.tc : Thread Cert.AbInIdeal.nD Cert.AbInIdeal.τ).loc Cert.AbInIdeal.main_arg8))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v122) = v0 c
          ∧ r.2.mem ((c.tc : Thread Cert.AbInRefIdeal.nD Cert.AbInRefIdeal.τ).loc Cert.AbInRefIdeal.main_v124) = v1 c
          ∧ r.2.mem ((c.tc : Thread Cert.AbInRefIdeal.nD Cert.AbInRefIdeal.τ).loc Cert.AbInRefIdeal.main_v125) = v2 c
          ∧ r.2.mem ((c.tc : Thread Cert.AbInRefIdeal.nD Cert.AbInRefIdeal.τ).loc Cert.AbInRefIdeal.main_v127) = v3 c
          ∧ r.2.mem ((c.tc : Thread Cert.AbInRefIdeal.nD Cert.AbInRefIdeal.τ).loc Cert.AbInRefIdeal.main_v129) = v4 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3)
          ∧ r.2.mem ((c.tc : Thread Cert.AbInRefIdeal.nD Cert.AbInRefIdeal.τ).loc Cert.AbInRefIdeal.main_arg4) = m' ((c.tc : Thread Cert.AbInRefIdeal.nD Cert.AbInRefIdeal.τ).loc Cert.AbInRefIdeal.main_arg4)
          ∧ r.2.mem ((c.tc : Thread Cert.AbInRefIdeal.nD Cert.AbInRefIdeal.τ).loc Cert.AbInRefIdeal.main_arg5) = m' ((c.tc : Thread Cert.AbInRefIdeal.nD Cert.AbInRefIdeal.τ).loc Cert.AbInRefIdeal.main_arg5)
          ∧ r.2.mem ((c.tc : Thread Cert.AbInRefIdeal.nD Cert.AbInRefIdeal.τ).loc Cert.AbInRefIdeal.main_arg6) = m' ((c.tc : Thread Cert.AbInRefIdeal.nD Cert.AbInRefIdeal.τ).loc Cert.AbInRefIdeal.main_arg6)
          ∧ r.2.mem ((c.tc : Thread Cert.AbInRefIdeal.nD Cert.AbInRefIdeal.τ).loc Cert.AbInRefIdeal.main_arg7) = m' ((c.tc : Thread Cert.AbInRefIdeal.nD Cert.AbInRefIdeal.τ).loc Cert.AbInRefIdeal.main_arg7)
          ∧ r.2.mem ((c.tc : Thread Cert.AbInRefIdeal.nD Cert.AbInRefIdeal.τ).loc Cert.AbInRefIdeal.main_arg8) = m' ((c.tc : Thread Cert.AbInRefIdeal.nD Cert.AbInRefIdeal.τ).loc Cert.AbInRefIdeal.main_arg8))

def Claim : Prop :=
  ∃ (hAttn : Cert.Attn.Facts) (hAttnIdeal : Cert.AttnIdeal.Facts) (hAttnRefIdeal : Cert.AttnRefIdeal.Facts) (hSgu : Cert.Sgu.Facts) (hSguIdeal : Cert.SguIdeal.Facts) (hSguRefIdeal : Cert.SguRefIdeal.Facts) (hAbOut : Cert.AbOut.Facts) (hAbOutIdeal : Cert.AbOutIdeal.Facts) (hAbOutRefIdeal : Cert.AbOutRefIdeal.Facts) (hFinalNorm : Cert.FinalNorm.Facts) (hFinalNormIdeal : Cert.FinalNormIdeal.Facts) (hFinalNormRefIdeal : Cert.FinalNormRefIdeal.Facts) (hAbIn : Cert.AbIn.Facts) (hAbInIdeal : Cert.AbInIdeal.Facts) (hAbInRefIdeal : Cert.AbInRefIdeal.Facts),
    quiescent_Attn (hAttn := hAttn)
    ∧ quiescent_AttnIdeal (hAttnIdeal := hAttnIdeal)
    ∧ quiescent_AttnRefIdeal (hAttnRefIdeal := hAttnRefIdeal)
    ∧ quiescent_Sgu (hSgu := hSgu)
    ∧ quiescent_SguIdeal (hSguIdeal := hSguIdeal)
    ∧ quiescent_SguRefIdeal (hSguRefIdeal := hSguRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_AbIn (hAbIn := hAbIn)
    ∧ quiescent_AbInIdeal (hAbInIdeal := hAbInIdeal)
    ∧ quiescent_AbInRefIdeal (hAbInRefIdeal := hAbInRefIdeal)
    ∧ preserves_Attn_AttnIdeal
    ∧ algebraic_AttnIdeal_AttnRefIdeal (hAttnIdeal := hAttnIdeal) (hAttnRefIdeal := hAttnRefIdeal)
    ∧ preserves_Sgu_SguIdeal
    ∧ algebraic_SguIdeal_SguRefIdeal (hSguIdeal := hSguIdeal) (hSguRefIdeal := hSguRefIdeal)
    ∧ preserves_AbOut_AbOutIdeal
    ∧ algebraic_AbOutIdeal_AbOutRefIdeal (hAbOutIdeal := hAbOutIdeal) (hAbOutRefIdeal := hAbOutRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_AbIn_AbInIdeal
    ∧ algebraic_AbInIdeal_AbInRefIdeal (hAbInIdeal := hAbInIdeal) (hAbInRefIdeal := hAbInRefIdeal)
-- ==== Attn.lean ====
abbrev S8x4096x512 : Shape := ⟨3, ![8, 4096, 512]⟩
abbrev S8x4096x128 : Shape := ⟨3, ![8, 4096, 128]⟩
abbrev S8x256x128 : Shape := ⟨3, ![8, 256, 128]⟩
abbrev S8 : Shape := ⟨1, ![8]⟩
abbrev S1x8 : Shape := ⟨2, ![1, 8]⟩
abbrev S1x128x512 : Shape := ⟨3, ![1, 128, 512]⟩
abbrev S1x128x128 : Shape := ⟨3, ![1, 128, 128]⟩
abbrev S1x256x128 : Shape := ⟨3, ![1, 256, 128]⟩
abbrev S128x512 : Shape := ⟨2, ![128, 512]⟩
abbrev S128x128 : Shape := ⟨2, ![128, 128]⟩
abbrev S256x128 : Shape := ⟨2, ![256, 128]⟩
abbrev S640x128 : Shape := ⟨2, ![640, 128]⟩
abbrev S128x640 : Shape := ⟨2, ![128, 640]⟩
abbrev S640x64 : Shape := ⟨2, ![640, 64]⟩
abbrev S128x64 : Shape := ⟨2, ![128, 64]⟩
abbrev S1x1 : Shape := ⟨2, ![1, 1]⟩
abbrev S128 : Shape := ⟨1, ![128]⟩
abbrev S128x1 : Shape := ⟨2, ![128, 1]⟩
abbrev S1x128x64 : Shape := ⟨3, ![1, 128, 64]⟩

abbrev nBuf : Space → Nat
  | .hbm => 8
  | .vmem => 21
  | .smem => 0
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S8x256x128, .bf16⟩
  | .hbm, ⟨4, _⟩ => ⟨S8x256x128, .bf16⟩
  | .hbm, ⟨5, _⟩ => ⟨S8, .f32⟩
  | .hbm, ⟨6, _⟩ => ⟨S1x8, .f32⟩
  | .hbm, ⟨7, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x8, .f32⟩
  | .local _ .vmem, ⟨19, _⟩ => ⟨S1x128x512, .bf16⟩
  | .local _ .vmem, ⟨20, _⟩ => ⟨S1x128x512, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x4096x512 : Shape := ⟨3, ![8, 4096, 512]⟩
abbrev S8x4096x128 : Shape := ⟨3, ![8, 4096, 128]⟩
abbrev S8x256x128 : Shape := ⟨3, ![8, 256, 128]⟩
abbrev S8 : Shape := ⟨1, ![8]⟩
abbrev S8x32x128x2x4x64 : Shape := ⟨6, ![8, 32, 128, 2, 4, 64]⟩
abbrev S8x4096x2x64 : Shape := ⟨4, ![8, 4096, 2, 64]⟩
abbrev S_ : Shape := ⟨0, ![]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S8x256x2x64 : Shape := ⟨4, ![8, 256, 2, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S128x384 : Shape := ⟨2, ![128, 384]⟩
abbrev S1x128x384 : Shape := ⟨3, ![1, 128, 384]⟩
abbrev S32x128x384 : Shape := ⟨3, ![32, 128, 384]⟩
abbrev S8x32x2x384x128x4 : Shape := ⟨6, ![8, 32, 2, 384, 128, 4]⟩
abbrev S8x32x2x4x128x384 : Shape := ⟨6, ![8, 32, 2, 4, 128, 384]⟩
abbrev S1x32x1x1x128x384 : Shape := ⟨6, ![1, 32, 1, 1, 128, 384]⟩
abbrev S8x2x256x32x128x4 : Shape := ⟨6, ![8, 2, 256, 32, 128, 4]⟩
abbrev S8x32x2x4x128x256 : Shape := ⟨6, ![8, 32, 2, 4, 128, 256]⟩
abbrev S2x4 : Shape := ⟨2, ![2, 4]⟩
abbrev S2x4x1x1 : Shape := ⟨4, ![2, 4, 1, 1]⟩
abbrev S8x32x2x4x128 : Shape := ⟨5, ![8, 32, 2, 4, 128]⟩
abbrev S8x32x2x4x128x1 : Shape := ⟨6, ![8, 32, 2, 4, 128, 1]⟩
abbrev S1x1x2x4x1x1 : Shape := ⟨6, ![1, 1, 2, 4, 1, 1]⟩
abbrev S8x32x2x64x4x128 : Shape := ⟨6, ![8, 32, 2, 64, 4, 128]⟩
abbrev S8x2x64x32x4x128 : Shape := ⟨6, ![8, 2, 64, 32, 4, 128]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S8x256x128, .bf16⟩
  | .hbm, ⟨4, _⟩ => ⟨S8x256x128, .bf16⟩
  | .hbm, ⟨5, _⟩ => ⟨S8, .f32⟩
  | .hbm, ⟨6, _⟩ => ⟨S8x4096x512, .f32⟩
  | .hbm, ⟨7, _⟩ => ⟨S8x4096x128, .f32⟩
  | .hbm, ⟨8, _⟩ => ⟨S8x4096x128, .f32⟩
  | .hbm, ⟨9, _⟩ => ⟨S8x256x128, .f32⟩
  | .hbm, ⟨10, _⟩ => ⟨S8x256x128, .f32⟩
  | .hbm, ⟨11, _⟩ => ⟨S8x32x128x2x4x64, .f32⟩
  | .hbm, ⟨12, _⟩ => ⟨S8x4096x2x64, .f32⟩
  | .hbm, ⟨13, _⟩ => ⟨S_, .i32⟩
  | .hbm, ⟨14, _⟩ => ⟨S_, .f32⟩
  | .hbm, ⟨15, _⟩ => ⟨S8x4352x2x64, .f32⟩
  | .hbm, ⟨16, _⟩ => ⟨S8x34x128x2x64, .f32⟩
  | .hbm, ⟨17, _⟩ => ⟨S8x32x128x2x64, .f32⟩
  | .hbm, ⟨18, _⟩ => ⟨S8x32x128x2x64, .f32⟩
  | .hbm, ⟨19, _⟩ => ⟨S8x32x128x2x64, .f32⟩
  | .hbm, ⟨20, _⟩ => ⟨S8x32x384x2x64, .f32⟩
  | .hbm, ⟨21, _⟩ => ⟨S8x4096x2x64, .f32⟩
  | .hbm, ⟨22, _⟩ => ⟨S_, .i32⟩
  | .hbm, ⟨23, _⟩ => ⟨S_, .f32⟩
  | .hbm, ⟨24, _⟩ => ⟨S8x4352x2x64, .f32⟩
  | .hbm, ⟨25, _⟩ => ⟨S8x34x128x2x64, .f32⟩
  | .hbm, ⟨26, _⟩ => ⟨S8x32x128x2x64, .f32⟩
  | .hbm, ⟨27, _⟩ => ⟨S8x32x128x2x64, .f32⟩
  | .hbm, ⟨28, _⟩ => ⟨S8x32x128x2x64, .f32⟩
  | .hbm, ⟨29, _⟩ => ⟨S8x32x384x2x64, .f32⟩
  | .hbm, ⟨30, _⟩ => ⟨S8x256x2x64, .f32⟩
  | .hbm, ⟨31, _⟩ => ⟨S8x256x2x64, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S_, .i32⟩
  | .hbm, ⟨37, _⟩ => ⟨S1x384, .i32⟩
  | .hbm, ⟨38, _⟩ => ⟨S1x384, .i32⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S1x1x384, .i32⟩
  | .hbm, ⟨45, _⟩ => ⟨S32x1x384, .i32⟩
  | .hbm, ⟨46, _⟩ => ⟨S32x1x384, .i32⟩
  | .hbm, ⟨47, _⟩ => ⟨S32x1x384, .i32⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S128x384, .i32⟩
  | .hbm, ⟨52, _⟩ => ⟨S_, .i32⟩
  | .hbm, ⟨53, _⟩ => ⟨S128x384, .i32⟩
  | .hbm, ⟨54, _⟩ => ⟨S128x384, .i1⟩
  | .hbm, ⟨55, _⟩ => ⟨S_, .i32⟩
  | .hbm, ⟨56, _⟩ => ⟨S32x1x384, .i32⟩
  | .hbm, ⟨57, _⟩ => ⟨S32x1x384, .i1⟩
  | .hbm, ⟨58, _⟩ => ⟨S1x128x384, .i1⟩
  | .hbm, ⟨59, _⟩ => ⟨S32x128x384, .i1⟩
  | .hbm, ⟨60, _⟩ => ⟨S32x128x384, .i1⟩
  | .hbm, ⟨61, _⟩ => ⟨S32x128x384, .i1⟩
  | .hbm, ⟨62, _⟩ => ⟨S_, .i32⟩
  | .hbm, ⟨63, _⟩ => ⟨S32x1x384, .i32⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S8x32x2x384x128x4, .f32⟩
  | .hbm, ⟨68, _⟩ => ⟨S8x32x2x4x128x384, .f32⟩
  | .hbm, ⟨69, _⟩ => ⟨S_, .f32⟩
  | .hbm, ⟨70, _⟩ => ⟨S8x32x2x4x128x384, .f32⟩
  | .hbm, ⟨71, _⟩ => ⟨S8x32x2x4x128x384, .f32⟩
  | .hbm, ⟨72, _⟩ => ⟨S1x32x1x1x128x384, .i1⟩
  | .hbm, ⟨73, _⟩ => ⟨S_, .f32⟩
  | .hbm, ⟨74, _⟩ => ⟨S_, .f32⟩
  | .hbm, ⟨75, _⟩ => ⟨S8x32x2x4x128x384, .i1⟩
  | .hbm, ⟨76, _⟩ => ⟨S8x32x2x4x128x384, .f32⟩
  | .hbm, ⟨77, _⟩ => ⟨S8x32x2x4x128x384, .f32⟩
  | .hbm, ⟨78, _⟩ => ⟨S8x2x256x32x128x4, .f32⟩
  | .hbm, ⟨79, _⟩ => ⟨S8x32x2x4x128x256, .f32⟩
  | .hbm, ⟨80, _⟩ => ⟨S_, .f32⟩
  | .hbm, ⟨81, _⟩ => ⟨S8x32x2x4x128x256, .f32⟩
  | .hbm, ⟨82, _⟩ => ⟨S8x32x2x4x128x256, .f32⟩
  | .hbm, ⟨83, _⟩ => ⟨S2x4, .f32⟩
  | .hbm, ⟨84, _⟩ => ⟨S2x4x1x1, .f32⟩
  | .hbm, ⟨85, _⟩ => ⟨S_, .f32⟩
  | .hbm, ⟨86, _⟩ => ⟨S8x32x2x4x128, .f32⟩
  | .hbm, ⟨87, _⟩ => ⟨S8x32x2x4x128x1, .f32⟩
  | .hbm, ⟨88, _⟩ => ⟨S_, .f32⟩
  | .hbm, ⟨89, _⟩ => ⟨S8x32x2x4x128, .f32⟩
  | .hbm, ⟨90, _⟩ => ⟨S8x32x2x4x128x1, .f32⟩
  | .hbm, ⟨91, _⟩ => ⟨S8x32x2x4x128x1, .f32⟩
  | .hbm, ⟨92, _⟩ => ⟨S1x1x2x4x1x1, .f32⟩
  | .hbm, ⟨93, _⟩ => ⟨S8x32x2x4x128x1, .f32⟩
  | .hbm, ⟨94, _⟩ => ⟨S8x32x2x4x128x1, .f32⟩
  | .hbm, ⟨95, _⟩ => ⟨S8x32x2x4x128x384, .f32⟩
  | .hbm, ⟨96, _⟩ => ⟨S8x32x2x4x128x384, .f32⟩
  | .hbm, ⟨97, _⟩ => ⟨S8x32x2x4x128x384, .f32⟩
  | .hbm, ⟨98, _⟩ => ⟨S8x32x2x4x128x256, .f32⟩
  | .hbm, ⟨99, _⟩ => ⟨S8x32x2x4x128x256, .f32⟩
  | .hbm, ⟨100, _⟩ => ⟨S8x32x2x4x128x256, .f32⟩
  | .hbm, ⟨101, _⟩ => ⟨S_, .f32⟩
  | .hbm, ⟨102, _⟩ => ⟨S8x32x2x4x128, .f32⟩
  | .hbm, ⟨103, _⟩ => ⟨S8x32x2x4x128x1, .f32⟩
  | .hbm, ⟨104, _⟩ => ⟨S_, .f32⟩
  | .hbm, ⟨105, _⟩ => ⟨S8x32x2x4x128, .f32⟩
  | .hbm, ⟨106, _⟩ => ⟨S8x32x2x4x128x1, .f32⟩
  | .hbm, ⟨107, _⟩ => ⟨S8x32x2x4x128x1, .f32⟩
  | .hbm, ⟨108, _⟩ => ⟨S1x1x2x4x1x1, .f32⟩
  | .hbm, ⟨109, _⟩ => ⟨S8x32x2x4x128x1, .f32⟩
  | .hbm, ⟨110, _⟩ => ⟨S8x32x2x4x128x1, .f32⟩
  | .hbm, ⟨111, _⟩ => ⟨S8x32x2x4x128x1, .f32⟩
  | .hbm, ⟨112, _⟩ => ⟨S8x32x2x4x128x1, .f32⟩
  | .hbm, ⟨113, _⟩ => ⟨S_, .f32⟩
  | .hbm, ⟨114, _⟩ => ⟨S8x32x2x4x128x1, .f32⟩
  | .hbm, ⟨115, _⟩ => ⟨S8x32x2x4x128x1, .f32⟩
  | .hbm, ⟨116, _⟩ => ⟨S8x32x2x4x128x384, .f32⟩
  | .hbm, ⟨117, _⟩ => ⟨S8x32x2x4x128x384, .f32⟩
  | .hbm, ⟨118, _⟩ => ⟨S8x32x2x64x4x128, .f32⟩
  | .hbm, ⟨119, _⟩ => ⟨S8x32x128x2x4x64, .f32⟩
  | .hbm, ⟨120, _⟩ => ⟨S8x32x2x4x128x256, .f32⟩
  | .hbm, ⟨121, _⟩ => ⟨S8x32x2x4x128x256, .f32⟩
  | .hbm, ⟨122, _⟩ => ⟨S8x2x64x32x4x128, .f32⟩
  | .hbm, ⟨123, _⟩ => ⟨S8x32x128x2x4x64, .f32⟩
  | .hbm, ⟨124, _⟩ => ⟨S8x32x128x2x4x64, .f32⟩
  | .hbm, ⟨125, _⟩ => ⟨S8x4096x512, .f32⟩
  | .hbm, ⟨126, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Sgu.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x1x1024 : Shape := ⟨3, ![8, 1, 1024]⟩
abbrev S1x1024 : Shape := ⟨2, ![1, 1024]⟩
abbrev S128x8 : Shape := ⟨2, ![128, 8]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 20
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024x2048, .bf16⟩
  | .hbm, ⟨14, _⟩ => ⟨S1x1024, .f32⟩
  | .hbm, ⟨15, _⟩ => ⟨S8x128x128, .bf16⟩
  | .hbm, ⟨16, _⟩ => ⟨S128x8, .f32⟩
  | .hbm, ⟨17, _⟩ => ⟨S1024x1024, .bf16⟩
  | .hbm, ⟨18, _⟩ => ⟨S1x1024, .f32⟩
  | .hbm, ⟨19, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2048, .bf16⟩
  | .local _ .vmem, ⟨10, _⟩ => ⟨S1x1024, .f32⟩
  | .local _ .vmem, ⟨11, _⟩ => ⟨S8x128x128, .bf16⟩
  | .local _ .vmem, ⟨12, _⟩ => ⟨S128x8, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SguRefIdeal.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2048 : Shape := ⟨3, ![8, 4096, 2048]⟩
abbrev S8x32x128x8x128 : Shape := ⟨5, ![8, 32, 128, 8, 128]⟩
abbrev S8x8x32x128x128 : Shape := ⟨5, ![8, 8, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S_, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096x2048, .f32⟩
  | .hbm, ⟨44, _⟩ => ⟨S8x4096x2048, .f32⟩
  | .hbm, ⟨45, _⟩ => ⟨S8x4096x2048, .f32⟩
  | .hbm, ⟨46, _⟩ => ⟨S_, .f32⟩
  | .hbm, ⟨47, _⟩ => ⟨S8x4096x2048, .f32⟩
  | .hbm, ⟨48, _⟩ => ⟨S8x4096x2048, .f32⟩
  | .hbm, ⟨49, _⟩ => ⟨S_, .f32⟩
  | .hbm, ⟨50, _⟩ => ⟨S8x4096x2048, .f32⟩
  | .hbm, ⟨51, _⟩ => ⟨S8x4096x2048, .f32⟩
  | .hbm, ⟨52, _⟩ => ⟨S8x4096x2048, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S8x32x128x8x128, .f32⟩
  | .hbm, ⟨72, _⟩ => ⟨S8x8x32x128x128, .f32⟩
  | .hbm, ⟨73, _⟩ => ⟨S8x32x128x8x128, .f32⟩
  | .hbm, ⟨74, _⟩ => ⟨S128x8, .f32⟩
  | .hbm, ⟨75, _⟩ => ⟨S128x8x1, .f32⟩
  | .hbm, ⟨76, _⟩ => ⟨S1x1x128x8x1, .f32⟩
  | .hbm, ⟨77, _⟩ => ⟨S8x32x128x8x128, .f32⟩
  | .hbm, ⟨78, _⟩ => ⟨S8x32x128x8x128, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== AbOut.lean ====
abbrev S8x4096x512 : Shape := ⟨3, ![8, 4096, 512]⟩
abbrev S1024x1024 : Shape := ⟨2, ![1024, 1024]⟩
abbrev S8x4096x1024 : Shape := ⟨3, ![8, 4096, 1024]⟩
abbrev S8x1024 : Shape := ⟨2, ![8, 1024]⟩
abbrev S8x1x1024 : Shape := ⟨3, ![8, 1, 1024]⟩
abbrev S512x1024 : Shape := ⟨2, ![512, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S1024x1024, .f32⟩
  | .hbm, ⟨3, _⟩ => ⟨S8x4096x1024, .f32⟩
  | .hbm, ⟨4, _⟩ => ⟨S8x1024, .f32⟩
  | .hbm, ⟨5, _⟩ => ⟨S1024x1024, .bf16⟩
  | .hbm, ⟨6, _⟩ => ⟨S8x1x1024, .f32⟩
  | .hbm, ⟨7, _⟩ => ⟨S512x1024, .bf16⟩
  | .hbm, ⟨8, _⟩ => ⟨S512x1024, .bf16⟩
  | .hbm, ⟨9, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AbOutRefIdeal.lean ====
abbrev S8x4096x512 : Shape := ⟨3, ![8, 4096, 512]⟩
abbrev S1024x1024 : Shape := ⟨2, ![1024, 1024]⟩
abbrev S8x4096x1024 : Shape := ⟨3, ![8, 4096, 1024]⟩
abbrev S8x1024 : Shape := ⟨2, ![8, 1024]⟩
abbrev S8x1x1024 : Shape := ⟨3, ![8, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S1024x1024, .f32⟩
  | .hbm, ⟨3, _⟩ => ⟨S8x4096x1024, .f32⟩
  | .hbm, ⟨4, _⟩ => ⟨S8x1024, .f32⟩
  | .hbm, ⟨5, _⟩ => ⟨S8x4096x512, .f32⟩
  | .hbm, ⟨6, _⟩ => ⟨S8x4096x512, .f32⟩
  | .hbm, ⟨7, _⟩ => ⟨S8x4096x1024, .f32⟩
  | .hbm, ⟨8, _⟩ => ⟨S8x4096x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FinalNorm.lean ====
abbrev S8x4096x1024 : Shape := ⟨3, ![8, 4096, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .hbm, ⟨5, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x1024, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S1x1x1024, .f32⟩
  | .hbm, ⟨16, _⟩ => ⟨S8x4096x1024, .f32⟩
  | .hbm, ⟨17, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AbIn.lean ====
abbrev S8x4096x1024 : Shape := ⟨3, ![8, 4096, 1024]⟩
abbrev S1024 : Shape := ⟨1, ![1024]⟩
abbrev S8x1024 : Shape := ⟨2, ![8, 1024]⟩
abbrev S1024x1280 : Shape := ⟨2, ![1024, 1280]⟩
abbrev S4096x16 : Shape := ⟨2, ![4096, 16]⟩
abbrev S128x128 : Shape := ⟨2, ![128, 128]⟩
abbrev S4096x64 : Shape := ⟨2, ![4096, 64]⟩
abbrev S1x4096x1x64 : Shape := ⟨4, ![1, 4096, 1, 64]⟩
abbrev S1x4096x10x64 : Shape := ⟨4, ![1, 4096, 10, 64]⟩
abbrev S4096x640 : Shape := ⟨2, ![4096, 640]⟩
abbrev S4096x20x2x16 : Shape := ⟨4, ![4096, 20, 2, 16]⟩
abbrev S4096x20x1x16 : Shape := ⟨4, ![4096, 20, 1, 16]⟩
abbrev S1024x640 : Shape := ⟨2, ![1024, 640]⟩
abbrev S1024x20x2x16 : Shape := ⟨4, ![1024, 20, 2, 16]⟩
abbrev S1024x20x1x16 : Shape := ⟨4, ![1024, 20, 1, 16]⟩
abbrev S1024x1920 : Shape := ⟨2, ![1024, 1920]⟩
abbrev S128x256 : Shape := ⟨2, ![128, 256]⟩
abbrev S1x1024 : Shape := ⟨2, ![1, 1024]⟩
abbrev S8x1x1024 : Shape := ⟨3, ![8, 1, 1024]⟩
abbrev S8x4096x512 : Shape := ⟨3, ![8, 4096, 512]⟩
abbrev S8x4096x128 : Shape := ⟨3, ![8, 4096, 128]⟩
abbrev S1x512x1024 : Shape := ⟨3, ![1, 512, 1024]⟩
abbrev S1x1x1024 : Shape := ⟨3, ![1, 1, 1024]⟩
abbrev S512x640 : Shape := ⟨2, ![512, 640]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x1920 : Shape := ⟨2, ![512, 1920]⟩
abbrev S512x512 : Shape := ⟨2, ![512, 512]⟩
abbrev S512x128 : Shape := ⟨2, ![512, 128]⟩
abbrev S512x256 : Shape := ⟨2, ![512, 256]⟩

abbrev nBuf : Space → Nat
  | .hbm => 43
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1280, .f32⟩
  | .hbm, ⟨5, _⟩ => ⟨S4096x16, .f32⟩
  | .hbm, ⟨6, _⟩ => ⟨S4096x16, .f32⟩
  | .hbm, ⟨7, _⟩ => ⟨S128x128, .f32⟩
  | .hbm, ⟨8, _⟩ => ⟨S128x128, .f32⟩
  | .hbm, ⟨9, _⟩ => ⟨S4096x64, .f32⟩
  | .hbm, ⟨10, _⟩ => ⟨S4096x64, .f32⟩
  | .hbm, ⟨11, _⟩ => ⟨S1x4096x1x64, .f32⟩
  | .hbm, ⟨12, _⟩ => ⟨S1x4096x10x64, .f32⟩
  | .hbm, ⟨13, _⟩ => ⟨S4096x640, .f32⟩
  | .hbm, ⟨14, _⟩ => ⟨S4096x64, .f32⟩
  | .hbm, ⟨15, _⟩ => ⟨S1x4096x1x64, .f32⟩
  | .hbm, ⟨16, _⟩ => ⟨S1x4096x10x64, .f32⟩
  | .hbm, ⟨17, _⟩ => ⟨S4096x640, .f32⟩
  | .hbm, ⟨18, _⟩ => ⟨S4096x20x2x16, .f32⟩
  | .hbm, ⟨19, _⟩ => ⟨S4096x20x1x16, .f32⟩
  | .hbm, ⟨20, _⟩ => ⟨S4096x20x1x16, .f32⟩
  | .hbm, ⟨21, _⟩ => ⟨S4096x20x1x16, .f32⟩
  | .hbm, ⟨22, _⟩ => ⟨S4096x20x2x16, .f32⟩
  | .hbm, ⟨23, _⟩ => ⟨S4096x640, .f32⟩
  | .hbm, ⟨24, _⟩ => ⟨S1024x640, .f32⟩
  | .hbm, ⟨25, _⟩ => ⟨S1024x20x2x16, .f32⟩
  | .hbm, ⟨26, _⟩ => ⟨S1024x20x1x16, .f32⟩
  | .hbm, ⟨27, _⟩ => ⟨S1024x20x1x16, .f32⟩
  | .hbm, ⟨28, _⟩ => ⟨S1024x20x2x16, .f32⟩
  | .hbm, ⟨29, _⟩ => ⟨S1024x640, .f32⟩
  | .hbm, ⟨30, _⟩ => ⟨S1024x1920, .f32⟩
  | .hbm, ⟨31, _⟩ => ⟨S1024x1920, .bf16⟩
  | .hbm, ⟨32, _⟩ => ⟨S128x128, .bf16⟩
  | .hbm, ⟨33, _⟩ => ⟨S128x128, .bf16⟩
  | .hbm, ⟨34, _⟩ => ⟨S128x256, .bf16⟩
  | .hbm, ⟨35, _⟩ => ⟨S1x1024, .f32⟩
  | .hbm, ⟨36, _⟩ => ⟨S8x1x1024, .f32⟩
  | .hbm, ⟨37, _⟩ => ⟨S8x1x1024, .f32⟩
  | .hbm, ⟨38, _⟩ => ⟨S8x4096x512, .bf16⟩
  | .hbm, ⟨39, _⟩ => ⟨S8x4096x128, .bf16⟩
  | .hbm, ⟨40, _⟩ => ⟨S8x4096x128, .bf16⟩
  | .hbm, ⟨41, _⟩ => ⟨S8x4096x512, .bf16⟩
  | .hbm, ⟨42, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1920, .bf16⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S128x256, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AbInRefIdeal.lean ====
abbrev S8x4096x1024 : Shape := ⟨3, ![8, 4096, 1024]⟩
abbrev S1024 : Shape := ⟨1, ![1024]⟩
abbrev S8x1024 : Shape := ⟨2, ![8, 1024]⟩
abbrev S1024x1280 : Shape := ⟨2, ![1024, 1280]⟩
abbrev S4096x16 : Shape := ⟨2, ![4096, 16]⟩
abbrev S128x128 : Shape := ⟨2, ![128, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x1280 : Shape := ⟨3, ![8, 4096, 1280]⟩
abbrev S8x4096x512 : Shape := ⟨3, ![8, 4096, 512]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S4096x1x16 : Shape := ⟨3, ![4096, 1, 16]⟩
abbrev S1x4096x1x16 : Shape := ⟨4, ![1, 4096, 1, 16]⟩
abbrev S8x4096x128 : Shape := ⟨3, ![8, 4096, 128]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩
abbrev S8x4096x4x128 : Shape := ⟨4, ![8, 4096, 4, 128]⟩

abbrev nBuf : Space → Nat
  | .hbm => 143
  | .vmem => 0
  | .smem => 0
  | _ => 0

abbrev hbmTy0_0 (i : Nat) : BufTy := match i % 128 with
  | 0 => ⟨S8x4096x1024, .f32⟩
  | 1 => ⟨S1024, .f32⟩
  | 2 => ⟨S8x1024, .f32⟩
  | 3 => ⟨S8x1024, .f32⟩
  | 4 => ⟨S1024x1280, .f32⟩
  | 5 => ⟨S4096x16, .f32⟩
  | 6 => ⟨S4096x16, .f32⟩
  | 7 => ⟨S128x128, .f32⟩
  | 8 => ⟨S128x128, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x1x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x1x1024, .f32⟩
  | 32 => ⟨S8x4096x1024, .f32⟩
  | 33 => ⟨S8x4096x1024, .f32⟩
  | 34 => ⟨S8x4096x1280, .f32⟩
  | 35 => ⟨S8x4096x512, .f32⟩
  | 36 => ⟨S8x4096x8x64, .f32⟩
  | 37 => ⟨S8x4096x8x32, .f32⟩
  | 38 => ⟨S8x4096x8x16, .f32⟩
  | 39 => ⟨S8x4096x8x16, .f32⟩
  | 40 => ⟨S4096x16, .f32⟩
  | 41 => ⟨S4096x1x16, .f32⟩
  | 42 => ⟨S4096x16, .f32⟩
  | 43 => ⟨S4096x1x16, .f32⟩
  | 44 => ⟨S1x4096x1x16, .f32⟩
  | 45 => ⟨S8x4096x8x16, .f32⟩
  | 46 => ⟨S8x4096x8x16, .f32⟩
  | 47 => ⟨S1x4096x1x16, .f32⟩
  | 48 => ⟨S8x4096x8x16, .f32⟩
  | 49 => ⟨S8x4096x8x16, .f32⟩
  | 50 => ⟨S8x4096x8x16, .f32⟩
  | 51 => ⟨S1x4096x1x16, .f32⟩
  | 52 => ⟨S8x4096x8x16, .f32⟩
  | 53 => ⟨S8x4096x8x16, .f32⟩
  | 54 => ⟨S1x4096x1x16, .f32⟩
  | 55 => ⟨S8x4096x8x16, .f32⟩
  | 56 => ⟨S8x4096x8x16, .f32⟩
  | 57 => ⟨S8x4096x8x16, .f32⟩
  | 58 => ⟨S8x4096x8x32, .f32⟩
  | 59 => ⟨S8x4096x8x32, .f32⟩
  | 60 => ⟨S8x4096x8x16, .f32⟩
  | 61 => ⟨S8x4096x8x16, .f32⟩
  | 62 => ⟨S4096x16, .f32⟩
  | 63 => ⟨S4096x1x16, .f32⟩
  | 64 => ⟨S4096x16, .f32⟩
  | 65 => ⟨S4096x1x16, .f32⟩
  | 66 => ⟨S1x4096x1x16, .f32⟩
  | 67 => ⟨S8x4096x8x16, .f32⟩
  | 68 => ⟨S8x4096x8x16, .f32⟩
  | 69 => ⟨S1x4096x1x16, .f32⟩
  | 70 => ⟨S8x4096x8x16, .f32⟩
  | 71 => ⟨S8x4096x8x16, .f32⟩
  | 72 => ⟨S8x4096x8x16, .f32⟩
  | 73 => ⟨S1x4096x1x16, .f32⟩
  | 74 => ⟨S8x4096x8x16, .f32⟩
  | 75 => ⟨S8x4096x8x16, .f32⟩
  | 76 => ⟨S1x4096x1x16, .f32⟩
  | 77 => ⟨S8x4096x8x16, .f32⟩
  | 78 => ⟨S8x4096x8x16, .f32⟩
  | 79 => ⟨S8x4096x8x16, .f32⟩
  | 80 => ⟨S8x4096x8x32, .f32⟩
  | 81 => ⟨S8x4096x8x64, .f32⟩
  | 82 => ⟨S8x4096x128, .f32⟩
  | 83 => ⟨S8x4096x2x64, .f32⟩
  | 84 => ⟨S8x4096x2x32, .f32⟩
  | 85 => ⟨S8x4096x2x16, .f32⟩
  | 86 => ⟨S8x4096x2x16, .f32⟩
  | 87 => ⟨S4096x16, .f32⟩
  | 88 => ⟨S4096x1x16, .f32⟩
  | 89 => ⟨S4096x16, .f32⟩
  | 90 => ⟨S4096x1x16, .f32⟩
  | 91 => ⟨S1x4096x1x16, .f32⟩
  | 92 => ⟨S8x4096x2x16, .f32⟩
  | 93 => ⟨S8x4096x2x16, .f32⟩
  | 94 => ⟨S1x4096x1x16, .f32⟩
  | 95 => ⟨S8x4096x2x16, .f32⟩
  | 96 => ⟨S8x4096x2x16, .f32⟩
  | 97 => ⟨S8x4096x2x16, .f32⟩
  | 98 => ⟨S1x4096x1x16, .f32⟩
  | 99 => ⟨S8x4096x2x16, .f32⟩
  | 100 => ⟨S8x4096x2x16, .f32⟩
  | 101 => ⟨S1x4096x1x16, .f32⟩
  | 102 => ⟨S8x4096x2x16, .f32⟩
  | 103 => ⟨S8x4096x2x16, .f32⟩
  | 104 => ⟨S8x4096x2x16, .f32⟩
  | 105 => ⟨S8x4096x2x32, .f32⟩
  | 106 => ⟨S8x4096x2x32, .f32⟩
  | 107 => ⟨S8x4096x2x16, .f32⟩
  | 108 => ⟨S8x4096x2x16, .f32⟩
  | 109 => ⟨S4096x16, .f32⟩
  | 110 => ⟨S4096x1x16, .f32⟩
  | 111 => ⟨S4096x16, .f32⟩
  | 112 => ⟨S4096x1x16, .f32⟩
  | 113 => ⟨S1x4096x1x16, .f32⟩
  | 114 => ⟨S8x4096x2x16, .f32⟩
  | 115 => ⟨S8x4096x2x16, .f32⟩
  | 116 => ⟨S1x4096x1x16, .f32⟩
  | 117 => ⟨S8x4096x2x16, .f32⟩
  | 118 => ⟨S8x4096x2x16, .f32⟩
  | 119 => ⟨S8x4096x2x16, .f32⟩
  | 120 => ⟨S1x4096x1x16, .f32⟩
  | 121 => ⟨S8x4096x2x16, .f32⟩
  | 122 => ⟨S8x4096x2x16, .f32⟩
  | 123 => ⟨S1x4096x1x16, .f32⟩
  | 124 => ⟨S8x4096x2x16, .f32⟩
  | 125 => ⟨S8x4096x2x16, .f32⟩
  | 126 => ⟨S8x4096x2x16, .f32⟩
  | 127 => ⟨S8x4096x2x32, .f32⟩
  | _ => ⟨S8x4096x1024, .f32⟩

abbrev hbmTy0_1 (i : Nat) : BufTy := match i % 128 with
  | 0 => ⟨S8x4096x2x64, .f32⟩
  | 1 => ⟨S8x4096x128, .f32⟩
  | 2 => ⟨S8x4096x512, .f32⟩
  | 3 => ⟨S8x4096x4x128, .f32⟩
  | 4 => ⟨S8x4096x4x128, .f32⟩
  | 5 => ⟨S8x4096x4x128, .f32⟩
  | 6 => ⟨S8x4096x512, .f32⟩
  | 7 => ⟨S8x4096x512, .bf16⟩
  | 8 => ⟨S8x4096x128, .f32⟩
  | 9 => ⟨S8x4096x128, .bf16⟩
  | 10 => ⟨S8x4096x128, .bf16⟩
  | 11 => ⟨S8x4096x512, .f32⟩
  | 12 => ⟨S8x4096x512, .bf16⟩
  | 13 => ⟨S8x4096x512, .f32⟩
  | 14 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩

abbrev nD : Nat := 1
abbrev τ : Topo := Topo.v7x

variable {F : FTy → Type} [FloatOps F]
-- ==== Proof.Attn.Spec.lean ====
/-
The windowed attention from scalars: the formula both programs are shown to compute, and the two facts about it that
are used: it reads the values only where a score is not ⊥, and a row of 640 scores is a row of 384 beside a row of 256.
-/
module

public import proofs.«01_k».proof.Proof.Gen.AttnIdeal.Frame
public import Idealize.ShloMosaic.Lib.Pointwise
public import Idealize.ShloMosaic.Lib.Pipeline.ValueKit

@[expose] public section

set_option maxRecDepth 16384

noncomputable section

namespace Cert.AttnIdeal.Hand

open Cert.AttnIdeal Cert.AttnIdeal.Gen Idealize.ShloMosaic Idealize.ShloMosaic.TcCoe Idealize.SL.Sem

/-- A row of scores, the sink's logit, a column of values: the softmax with a sink, applied to the values. -/
def soft (S : Fin 640 → EReal) (sk : EReal) (W : Fin 640 → EReal) : EReal :=
  ∑ k, Ideal.exp (S k - max (Finset.univ.fold max ⊥ S) sk)
      * Ideal.div 1 ((∑ l, Ideal.exp (S l - max (Finset.univ.fold max ⊥ S) sk))
          + Ideal.exp (sk - max (Finset.univ.fold max ⊥ S) sk)) * W k

theorem bot_sub_any (x : EReal) : (⊥ : EReal) - x = ⊥ := by
  rw [sub_eq_add_neg, EReal.bot_add]

/-- A value whose score is ⊥ is not read. -/
theorem soft_congr {S S' : Fin 640 → EReal} {sk sk' : EReal} {W W' : Fin 640 → EReal} (hS : ∀ k, S k = S' k)
    (hs : sk = sk') (hW : ∀ k, S k ≠ ⊥ → W k = W' k) : soft S sk W = soft S' sk' W' := by
  obtain rfl : S = S' := funext hS
  subst hs
  refine Finset.sum_congr rfl fun k _ => ?_
  by_cases h : S k = ⊥
  · rw [h, bot_sub_any, Ideal.exp_bot, zero_mul, zero_mul, zero_mul]
  · rw [hW k h]

theorem neg_inf : Ideal.ofBits .f32 0xFF800000#32 = (⊥ : EReal) := by
  simp [Ideal.ofBits, Ideal.ieee]

/-- The keys (or values) a block of queries sees at lane `c`: 384 of the blocks around its own, zero off the ends of the
    sequence, then the 256 of the context. -/
def cat (K : FVec Ideal S8x4096x128 .bf16) (C : FVec Ideal S8x256x128 .bf16) (b : Fin 8) (n : Fin 32) (k : Fin 640)
    (c : Fin 128) : EReal :=
  if hk : (k : ℕ) < 384 then
    if hr : 128 ≤ (n : ℕ) * 128 + k ∧ (n : ℕ) * 128 + k < 4224 then K (ix3 b ⟨(n : ℕ) * 128 + k - 128, by omega⟩ c)
    else 0
  else C (ix3 b ⟨(k : ℕ) - 384, by omega⟩ c)

/-- Query row `r` of block `n` sees key `k`: a key of the context, or one in the window and in the sequence. -/
def Sees (n : Fin 32) (r : Fin 128) (k : Fin 640) : Prop :=
  384 ≤ (k : ℕ) ∨ ((r : ℕ) ≤ k ∧ (k : ℕ) ≤ r + 256) ∧ 128 ≤ (n : ℕ) * 128 + k ∧ (n : ℕ) * 128 + k < 4224

instance (n : Fin 32) (r : Fin 128) (k : Fin 640) : Decidable (Sees n r k) := by unfold Sees; infer_instance

/-- Head `h` reads lanes `64 * h …` of the queries and lanes `64 * (h / 4) …` of the keys. -/
def ql (h : Fin 8) (e : Fin 64) : Fin 512 := ⟨(h : ℕ) * 64 + e, by omega⟩
def kl (h : Fin 8) (e : Fin 64) : Fin 128 := ⟨(h : ℕ) / 4 * 64 + e, by omega⟩
def tok (n : Fin 32) (r : Fin 128) : Fin 4096 := ⟨(n : ℕ) * 128 + r, by omega⟩

/-- The score of query row `r` of block `n` against key `k`, ⊥ where it does not see it. -/
def score (Q : FVec Ideal S8x4096x512 .bf16) (K : FVec Ideal S8x4096x128 .bf16) (KC : FVec Ideal S8x256x128 .bf16)
    (b : Fin 8) (n : Fin 32) (r : Fin 128) (h : Fin 8) (k : Fin 640) : EReal :=
  if Sees n r k then
    (∑ e : Fin 64, (Q (ix3 b (tok n r) (ql h e)) : EReal) * cat K KC b n k (kl h e)) * Ideal.ofBits .f32 0x3E000000#32
  else ⊥

/-- One element of the attention's result. -/
def out (Q : FVec Ideal S8x4096x512 .bf16) (K V : FVec Ideal S8x4096x128 .bf16) (KC VC : FVec Ideal S8x256x128 .bf16)
    (SK : FVec Ideal S8 .f32) (b : Fin 8) (n : Fin 32) (r : Fin 128) (h : Fin 8) (d : Fin 64) : EReal :=
  soft (score Q K KC b n r h) (SK (ix1 h)) fun k => cat V VC b n k (kl h d)

/-- The attention's result array. -/
def G (Q : FVec Ideal S8x4096x512 .bf16) (K V : FVec Ideal S8x4096x128 .bf16) (KC VC : FVec Ideal S8x256x128 .bf16)
    (SK : FVec Ideal S8 .f32) : FVec Ideal S8x4096x512 .bf16 := fun i =>
  out Q K V KC VC SK (i 0) ⟨(i 1).val / 128, by have : (i 1).val < 4096 := (i 1).isLt; omega⟩
    ⟨(i 1).val % 128, by omega⟩ ⟨(i 2).val / 64, by have : (i 2).val < 512 := (i 2).isLt; omega⟩
    ⟨(i 2).val % 64, by omega⟩

end Cert.AttnIdeal.Hand
-- ==== Proof.Attn.Head.lean ====
/-
One head of the windowed attention, as the kernel computes it: the scores of 128 queries against 640 keys, masked,
turned into weights beside the sink's logit, and applied to the values.
-/
module

public import proofs.«01_k».proof.Proof.Attn.Spec
public import Idealize.ShloMosaic.Lib.Pointwise
public import Idealize.ShloMosaic.Lib.Pipeline.ValueKit

@[expose] public section

set_option maxRecDepth 16384

noncomputable section

namespace Cert.AttnIdeal.Hand

open Cert.AttnIdeal Cert.AttnIdeal.Gen Idealize.ShloMosaic Idealize.ShloMosaic.TcCoe Idealize.SL.Sem

/-- The masked, scaled scores of one head. -/
def scores (q : FVec Ideal S128x64 .bf16) (kk : FVec Ideal S640x64 .bf16) (valid : IVec S128x640 1) :
    FVec Ideal S128x640 .f32 :=
  select valid
    (mulf (matmul dot_S128x64_S640x64_S128x640_1_1_0_0_n_n none q kk (constant S128x640 .f32 0x00000000#32))
      (broadcast S128x640 (Scalar.ofBits (F := Ideal) .f32 0x3E000000#32)))
    (broadcast S128x640 (Named.named (F := Ideal) κ "mask" 0xF149F2CA#32))

/-- The row maximum of the scores and the sink's logit. -/
def top (S : FVec Ideal S128x640 .f32) (sk : FVec Ideal S1x1 .f32) : FVec Ideal S128x1 .f32 :=
  maximumf
    (shapeCast S128x1 (multiReduction .maximumf [1] S128 S 0xFF800000#32 reduces_S128x640_S128 (.inl rfl) rfl)
      shapeCasts_S128_S128x1)
    (broadcastTo S128x1 sk broadcasts_S1x1_S128x1)

/-- The exponentials of the scores under their row maximum. -/
def pexp (S : FVec Ideal S128x640 .f32) (sk : FVec Ideal S1x1 .f32) : FVec Ideal S128x640 .f32 :=
  exp (subf S (broadcastTo S128x640 (top S sk) broadcasts_S128x1_S128x640))

/-- The reciprocal of the denominator: the exponentials' row sum and the sink's. -/
def inv (S : FVec Ideal S128x640 .f32) (sk : FVec Ideal S1x1 .f32) : FVec Ideal S128x1 .f32 :=
  divf (broadcast S128x1 (Scalar.ofBits (F := Ideal) .f32 0x3F800000#32))
    (addf
      (shapeCast S128x1 (multiReduction .add [1] S128 (pexp S sk) 0x00000000#32 reduces_S128x640_S128 (.inl rfl) rfl)
        shapeCasts_S128_S128x1)
      (exp (subf (broadcastTo S128x1 sk broadcasts_S1x1_S128x1) (top S sk))))

/-- What one head's store writes: the weights applied to the values. -/
def headOut (S : FVec Ideal S128x640 .f32) (sk : FVec Ideal S1x1 .f32) (vv : FVec Ideal S640x64 .bf16) :
    FVec Ideal S1x128x64 .bf16 :=
  shapeCast S1x128x64
    (truncf .bf16
      (matmul dot_S128x640_S640x64_S128x64_1_0_0_1_n_n none
        (truncf .bf16 (mulf (pexp S sk) (broadcastTo S128x640 (inv S sk) broadcasts_S128x1_S128x640)) bitsLt_bf16_f32)
        vv (constant S128x64 .f32 0x00000000#32)) bitsLt_bf16_f32)
    shapeCasts_S128x64_S1x128x64

theorem top_apply (S : FVec Ideal S128x640 .f32) (sk : FVec Ideal S1x1 .f32) (r : Fin 128) (z : Fin 1) :
    top S sk (ix2 r z) = max (Finset.univ.fold max ⊥ fun k : Fin 640 => S (ix2 r k)) (sk (ix2 0 0)) := by
  pointwise [top, neg_inf]

theorem scores_apply (q : FVec Ideal S128x64 .bf16) (kk : FVec Ideal S640x64 .bf16) (valid : IVec S128x640 1)
    (r : Fin 128) (k : Fin 640) :
    scores q kk valid (ix2 r k)
      = Scalar.select (valid (ix2 r k)) ((∑ e : Fin 64, q (ix2 r e) * kk (ix2 k e)) * Ideal.ofBits .f32 0x3E000000#32)
          (⊥ : EReal) := by
  pointwise [scores]
  rfl

theorem headOut_apply (S : FVec Ideal S128x640 .f32) (sk : FVec Ideal S1x1 .f32) (vv : FVec Ideal S640x64 .bf16)
    (z : Fin 1) (r : Fin 128) (d : Fin 64) :
    headOut S sk vv (ix3 z r d) = soft (fun k => S (ix2 r k)) (sk (ix2 0 0)) (fun k => vv (ix2 k d)) := by
  pointwise [headOut, pexp, inv, soft, top_apply]

/-! ## The eight stores are this head at their own columns -/

section Stores

variable (v1 : FVec Ideal S128x512 .bf16) (v10 v19 : FVec Ideal S640x128 .bf16) (va : IVec S128x640 1)
  (v20 v21 v23 v26 v27 : IVec S128x640 32) (kk vv : FVec Ideal S640x64 .bf16) (s : FVec Ideal S1x1 .f32)

/-- The sink's logit as the stores read it. -/
abbrev sk1 : FVec Ideal S1x1 .f32 := shapeCast S1x1 s shapeCasts_S1x1_S1x1

theorem store0 : k0_pay11 v1 v10 v19 v20 v21 v23 v26 v27 s
    = headOut (scores (extractStridedSlice S128x64 ![0, 0] v1 slices_S128x512_o0_0_S128x64) (k0_pay9 v10)
        (k0_pay8 v20 v21 v23 v26 v27)) (sk1 s) (k0_pay10 v19) := rfl

theorem store1 : k0_pay12 v1 va kk vv s
    = headOut (scores (extractStridedSlice S128x64 ![0, 64] v1 slices_S128x512_o0_64_S128x64) kk va) (sk1 s) vv := rfl

theorem store2 : k0_pay16 vv (k0_pay13 s) (k0_pay14 v1 va kk) (k0_pay15 v1 va kk)
    = headOut (scores (extractStridedSlice S128x64 ![0, 128] v1 slices_S128x512_o0_128_S128x64) kk va) (sk1 s) vv := rfl

theorem store3 : k0_pay22 vv (k0_pay20 v1 va kk s) (k0_pay21 v1 va kk s)
    = headOut (scores (extractStridedSlice S128x64 ![0, 192] v1 slices_S128x512_o0_192_S128x64) kk va) (sk1 s) vv := rfl

theorem store4 : k0_pay25 v1 v10 v19 va s
    = headOut (scores (extractStridedSlice S128x64 ![0, 256] v1 slices_S128x512_o0_256_S128x64) (k0_pay23 v10) va)
        (sk1 s) (k0_pay24 v19) := rfl

theorem store5 : k0_pay27 va kk vv (k0_pay26 v1) s
    = headOut (scores (extractStridedSlice S128x64 ![0, 320] v1 slices_S128x512_o0_320_S128x64) kk va) (sk1 s) vv := rfl

theorem store6 : k0_pay32 vv (k0_pay28 s) (k0_pay29 v1 va kk) (k0_pay30 v1 va kk) (k0_pay31 s)
    = headOut (scores (extractStridedSlice S128x64 ![0, 384] v1 slices_S128x512_o0_384_S128x64) kk va) (sk1 s) vv := rfl

theorem store7 : k0_pay1 vv (k0_pay33 v1 va kk s)
    = headOut (scores (extractStridedSlice S128x64 ![0, 448] v1 slices_S128x512_o0_448_S128x64) kk va) (sk1 s) vv := rfl

end Stores

end Cert.AttnIdeal.Hand
-- ==== Proof.Attn.Mask.lean ====
/-
The attention's mask words: each comparison of small signed words is the comparison of the integers they stand for.
-/
module

public import proofs.«01_k».proof.Proof.Attn.Spec

@[expose] public section

namespace Cert.AttnIdeal.Hand

open Idealize.ShloMosaic

theorem word_nat (a : ℕ) : BitVec.ofNat 32 a = BitVec.ofInt 32 (a : ℤ) := (BitVec.ofInt_natCast 32 a).symm

theorem word_sub (a b : ℤ) : IntOp.subi (BitVec.ofInt 32 a) (BitVec.ofInt 32 b) = BitVec.ofInt 32 (a - b) := by
  show _ - _ = _
  rw [BitVec.sub_eq_add_neg, ← BitVec.ofInt_neg, ← BitVec.ofInt_add]; rfl

theorem word_add (a b : ℤ) : IntOp.addi (BitVec.ofInt 32 a) (BitVec.ofInt 32 b) = BitVec.ofInt 32 (a + b) := by
  show _ + _ = _
  rw [← BitVec.ofInt_add]

theorem word_mul (a b : ℤ) : IntOp.muli (BitVec.ofInt 32 a) (BitVec.ofInt 32 b) = BitVec.ofInt 32 (a * b) := by
  show _ * _ = _
  rw [← BitVec.ofInt_mul]

theorem word_toInt {a : ℤ} (h : -2147483648 ≤ a) (h' : a < 2147483648) : (BitVec.ofInt 32 a).toInt = a := by
  rw [BitVec.toInt_ofInt]
  exact Int.bmod_eq_of_le (by omega) (by omega)

theorem word_abs {a : ℤ} (h : -2147483648 ≤ a) (h' : a < 2147483648) :
    IntOp.absi (BitVec.ofInt 32 a) = BitVec.ofInt 32 |a| := by
  unfold IntOp.absi
  rw [BitVec.msb_eq_toInt, word_toInt h h']
  by_cases ha : a < 0
  · rw [if_pos (by simpa using ha), abs_of_neg ha, BitVec.ofInt_neg]
  · rw [if_neg (by simpa using ha), abs_of_nonneg (by omega)]

theorem word_le {a b : ℤ} (h : -2147483648 ≤ a) (h' : a < 2147483648) (g : -2147483648 ≤ b) (g' : b < 2147483648) :
    IntOp.cmpi .sle (BitVec.ofInt 32 a) (BitVec.ofInt 32 b) = BitVec.ofBool (decide (a ≤ b)) := by
  simp only [IntOp.cmpi, BitVec.sle, word_toInt h h', word_toInt g g']

theorem word_ge {a b : ℤ} (h : -2147483648 ≤ a) (h' : a < 2147483648) (g : -2147483648 ≤ b) (g' : b < 2147483648) :
    IntOp.cmpi .sge (BitVec.ofInt 32 a) (BitVec.ofInt 32 b) = BitVec.ofBool (decide (b ≤ a)) := by
  simp only [IntOp.cmpi, BitVec.sle, word_toInt h h', word_toInt g g']

theorem word_lt {a b : ℤ} (h : -2147483648 ≤ a) (h' : a < 2147483648) (g : -2147483648 ≤ b) (g' : b < 2147483648) :
    IntOp.cmpi .slt (BitVec.ofInt 32 a) (BitVec.ofInt 32 b) = BitVec.ofBool (decide (a < b)) := by
  simp only [IntOp.cmpi, BitVec.slt, word_toInt h h', word_toInt g g']

theorem bit_and (p q : Bool) : IntOp.andi (BitVec.ofBool p) (BitVec.ofBool q) = BitVec.ofBool (p && q) := by
  cases p <;> cases q <;> rfl

theorem bit_or (p q : Bool) : IntOp.ori (BitVec.ofBool p) (BitVec.ofBool q) = BitVec.ofBool (p || q) := by
  cases p <;> cases q <;> rfl

theorem bit_if (p : Prop) [Decidable p] (b : Bool) (h : b = true ↔ p) :
    BitVec.ofBool b = if p then 1#1 else 0#1 := by
  cases b
  · rw [if_neg (by simpa using h)]; rfl
  · rw [if_pos (by simpa using h)]; rfl

/-- The distance and the two ends of the sequence, as the words both programs compare. -/
theorem near_word (r k : ℕ) (hr : r < 128) (hk : k < 640) :
    IntOp.cmpi .sle (IntOp.absi (IntOp.subi (BitVec.ofNat 32 r) (IntOp.subi (BitVec.ofNat 32 k) 128#32))) 128#32
      = BitVec.ofBool (decide (r ≤ k ∧ k ≤ r + 256)) := by
  rw [show (128#32 : BitVec 32) = BitVec.ofInt 32 128 from rfl, word_nat, word_nat, word_sub, word_sub,
    word_abs (by omega) (by omega)]
  have h : |(r : ℤ) - ((k : ℤ) - 128)| < 1000 := by rw [abs_lt]; omega
  have h0 : 0 ≤ |(r : ℤ) - ((k : ℤ) - 128)| := abs_nonneg _
  rw [word_le (by omega) (by omega) (by omega) (by omega)]
  congr 1
  rw [decide_eq_decide, abs_le]; omega

theorem pos_ge_word (n k : ℕ) (hn : n < 32) (hk : k < 640) :
    IntOp.cmpi .sge (IntOp.addi (IntOp.muli (BitVec.ofNat 32 n) 128#32) (IntOp.subi (BitVec.ofNat 32 k) 128#32)) 0#32
      = BitVec.ofBool (decide (128 ≤ n * 128 + k)) := by
  rw [show (128#32 : BitVec 32) = BitVec.ofInt 32 128 from rfl, show (0#32 : BitVec 32) = BitVec.ofInt 32 0 from rfl,
    word_nat, word_nat, word_sub, word_mul, word_add, word_ge (by omega) (by omega) (by omega) (by omega)]
  congr 1
  rw [decide_eq_decide]; omega

theorem pos_lt_word (n k : ℕ) (hn : n < 32) (hk : k < 640) :
    IntOp.cmpi .slt (IntOp.addi (IntOp.muli (BitVec.ofNat 32 n) 128#32) (IntOp.subi (BitVec.ofNat 32 k) 128#32)) 4096#32
      = BitVec.ofBool (decide (n * 128 + k < 4224)) := by
  rw [show (128#32 : BitVec 32) = BitVec.ofInt 32 128 from rfl, show (4096#32 : BitVec 32) = BitVec.ofInt 32 4096 from rfl,
    word_nat, word_nat, word_sub, word_mul, word_add, word_lt (by omega) (by omega) (by omega) (by omega)]
  congr 1
  rw [decide_eq_decide]; omega

theorem ctx_word (k : ℕ) (hk : k < 640) :
    IntOp.cmpi .sge (BitVec.ofNat 32 k) 384#32 = BitVec.ofBool (decide (384 ≤ k)) := by
  rw [show (384#32 : BitVec 32) = BitVec.ofInt 32 384 from rfl, word_nat,
    word_ge (by omega) (by omega) (by omega) (by omega)]
  congr 1
  rw [decide_eq_decide]; omega

end Cert.AttnIdeal.Hand
-- ==== Proof.Attn.Point.lean ====
/-
The windowed attention's stores at one grid point, element by element.
-/
module

public import proofs.«01_k».proof.Proof.Attn.Head
public import proofs.«01_k».proof.Proof.Attn.Mask

@[expose] public section

set_option maxRecDepth 16384

noncomputable section

namespace Cert.AttnIdeal.Hand

open Cert.AttnIdeal Cert.AttnIdeal.Gen Idealize.ShloMosaic Idealize.ShloMosaic.TcCoe Idealize.SL.Sem

/-- The mask word of query row `r` against key `k` is one exactly where the row sees the key. -/
theorem valid_at (n : Fin 32) (i : grid0.Coords) (hn : (i 1).val = n) (r : Fin 128) (k : Fin 640) :
    k0_pay8 (iota .tc S128x640 32 [0] iota_S128x640_d0_w32) (iota .tc S128x640 32 [1] iota_S128x640_d1_w32) k0_pay5 (k0_pay6 i) k0_pay7 (ix2 r k)
      = if Sees n r k then 1#1 else 0#1 := by
  pointwise [k0_pay8, k0_pay5, k0_pay6, k0_pay7, hn]
  rw [show Scalar.muli (BitVec.ofNat 32 (n : ℕ)) 128#32 = IntOp.muli (BitVec.ofNat 32 (n : ℕ)) 128#32 from rfl,
    near_word r k r.isLt k.isLt, pos_ge_word n k n.isLt k.isLt, pos_lt_word n k n.isLt k.isLt, ctx_word k k.isLt,
    bit_and, bit_and, bit_or]
  refine bit_if _ _ ?_
  simp only [Bool.or_eq_true, Bool.and_eq_true, decide_eq_true_eq, Sees, and_assoc]

theorem keys_at (K : FVec Ideal S8x4096x128 .bf16) (KC : FVec Ideal S8x256x128 .bf16) (b : Fin 8) (n : Fin 32)
    (x1 x2 x3 : FVec Ideal S1x128x128 .bf16) (x7 : FVec Ideal S1x256x128 .bf16)
    (h1 : ∀ (r c : Fin 128) (h : 1 ≤ (n : ℕ)), x1 (ix3 0 r c) = K (ix3 b ⟨((n : ℕ) - 1) * 128 + r, by omega⟩ c))
    (h2 : ∀ (r c : Fin 128), x2 (ix3 0 r c) = K (ix3 b (tok n r) c))
    (h3 : ∀ (r c : Fin 128) (h : (n : ℕ) ≤ 30), x3 (ix3 0 r c) = K (ix3 b ⟨((n : ℕ) + 1) * 128 + r, by omega⟩ c))
    (h7 : ∀ (r : Fin 256) (c : Fin 128), x7 (ix3 0 r c) = KC (ix3 b r c))
    (k : Fin 640) (c : Fin 128) (hv : 384 ≤ (k : ℕ) ∨ 128 ≤ (n : ℕ) * 128 + k ∧ (n : ℕ) * 128 + k < 4224) :
    (k0_pay3 (F := Ideal) x1 x2 x3 x7 : FVec Ideal S640x128 .bf16) (ix2 k c) = cat K KC b n k c := by
  pointwise [k0_pay3, cat]
  by_cases a1 : (k : ℕ) < 128
  · rw [dif_pos a1, dif_pos (by omega), dif_pos (by omega), h1 _ _ (by omega)]
    congr 2; apply Fin.ext; simp only; omega
  rw [dif_neg a1]
  by_cases a2 : (k : ℕ) - 128 < 128
  · rw [dif_pos a2, dif_pos (by omega), dif_pos (by omega), h2]
    congr 2; apply Fin.ext; simp only [tok]; omega
  rw [dif_neg a2]
  by_cases a3 : (k : ℕ) - 128 - 128 < 128
  · rw [dif_pos a3, dif_pos (by omega), dif_pos (by omega), h3 _ _ (by omega)]
    congr 2; apply Fin.ext; simp only; omega
  rw [dif_neg a3, dif_neg (by omega), h7]
  congr 2

theorem vals_eq (x4 x5 x6 : FVec Ideal S1x128x128 .bf16) (x8 : FVec Ideal S1x256x128 .bf16) :
    k0_pay4 (F := Ideal) x4 x5 x6 x8 = k0_pay3 (F := Ideal) x4 x5 x6 x8 := rfl

theorem pick_one (a b : EReal) : Scalar.select 1#1 a b = a := rfl
theorem pick_zero (a b : EReal) : Scalar.select 0#1 a b = b := rfl

/-- One head at one element, from what its operands are. -/
theorem core (Q : FVec Ideal S8x4096x512 .bf16) (K V : FVec Ideal S8x4096x128 .bf16)
    (KC VC : FVec Ideal S8x256x128 .bf16) (SK : FVec Ideal S8 .f32) (b : Fin 8) (n : Fin 32) (h : Fin 8)
    (q : FVec Ideal S128x64 .bf16) (kk vv : FVec Ideal S640x64 .bf16) (va : IVec S128x640 1) (s : FVec Ideal S1x1 .f32)
    (hq : ∀ (r : Fin 128) (e : Fin 64), q (ix2 r e) = Q (ix3 b (tok n r) (ql h e)))
    (hk : ∀ (k : Fin 640) (e : Fin 64), (384 ≤ (k : ℕ) ∨ 128 ≤ (n : ℕ) * 128 + k ∧ (n : ℕ) * 128 + k < 4224) →
      kk (ix2 k e) = cat K KC b n k (kl h e))
    (hv : ∀ (k : Fin 640) (e : Fin 64), (384 ≤ (k : ℕ) ∨ 128 ≤ (n : ℕ) * 128 + k ∧ (n : ℕ) * 128 + k < 4224) →
      vv (ix2 k e) = cat V VC b n k (kl h e))
    (hva : ∀ (r : Fin 128) (k : Fin 640), va (ix2 r k) = if Sees n r k then 1#1 else 0#1)
    (hs : s (ix2 0 0) = SK (ix1 h)) (z : Fin 1) (r : Fin 128) (d : Fin 64) :
    headOut (scores q kk va) s vv (ix3 z r d) = out Q K V KC VC SK b n r h d := by
  have sees : ∀ k, Sees n r k → (384 ≤ (k : ℕ) ∨ 128 ≤ (n : ℕ) * 128 + k ∧ (n : ℕ) * 128 + k < 4224) := by
    intro k hk; unfold Sees at hk; omega
  rw [headOut_apply]
  refine soft_congr (fun k => ?_) hs (fun k hne => ?_)
  · rw [scores_apply, hva, score]
    by_cases hc : Sees n r k
    · rw [if_pos hc, if_pos hc, pick_one]
      congr 1
      refine Finset.sum_congr rfl fun e _ => ?_
      rw [hq, hk k e (sees k hc)]
    · rw [if_neg hc, if_neg hc, pick_zero]
  · by_cases hc : Sees n r k
    · exact hv k d (sees k hc)
    · rw [scores_apply, hva, if_neg hc, pick_zero] at hne
      exact absurd rfl hne

end Cert.AttnIdeal.Hand
-- ==== Proof.Attn.Value.lean ====
/-
The windowed attention's result array: the blocks its grid points write back, put together.
-/
module

public import proofs.«01_k».proof.Proof.Attn.Point

@[expose] public section

set_option maxRecDepth 16384

noncomputable section

namespace Cert.AttnIdeal.Hand

open Idealize.ShloMosaic.Pipeline (Dat)
open Cert.AttnIdeal Cert.AttnIdeal.Gen Idealize.ShloMosaic Idealize.ShloMosaic.TcCoe Idealize.SL.Sem

variable (m : (ℓ : Loc nD τ sig) → Buf (Elt Ideal) ℓ)

/-- Where the grid point `t` reads and writes: batch `t / 32`, token block `t % 32` and its neighbours. -/
theorem idx : ∀ t : Fin cfg0.N, win0_0.index t = ![t.val / 32, t.val % 32, 0]
    ∧ win0_1.index t = ![t.val / 32, t.val % 32 - 1, 0] ∧ win0_2.index t = ![t.val / 32, t.val % 32, 0]
    ∧ win0_3.index t = ![t.val / 32, min (t.val % 32 + 1) 31, 0]
    ∧ win0_4.index t = ![t.val / 32, t.val % 32 - 1, 0] ∧ win0_5.index t = ![t.val / 32, t.val % 32, 0]
    ∧ win0_6.index t = ![t.val / 32, min (t.val % 32 + 1) 31, 0]
    ∧ win0_7.index t = ![t.val / 32, 0, 0] ∧ win0_8.index t = ![t.val / 32, 0, 0] ∧ win0_9.index t = ![0, 0]
    ∧ win0_10.index t = ![t.val / 32, t.val % 32, 0] ∧ (grid0.coords t 1).val = t.val % 32 :=
  (by decide +kernel : ∀ t : Fin grid0.N, _)

theorem covers : (cfg0.win 10).Covers := by decide +kernel

/-- The grid point's batch and token block. -/
def pb (t : Fin cfg0.N) : Fin 8 := ⟨t.val / 32, by have : t.val < 256 := lt_of_lt_of_eq t.isLt N_0; omega⟩
def pn (t : Fin cfg0.N) : Fin 32 := ⟨t.val % 32, by omega⟩

abbrev aQ (c : Dev nD) : FVec Ideal S8x4096x512 .bf16 := m ((c : Thread nD τ).loc main_arg0)
abbrev aK (c : Dev nD) : FVec Ideal S8x4096x128 .bf16 := m ((c : Thread nD τ).loc main_arg1)
abbrev aV (c : Dev nD) : FVec Ideal S8x4096x128 .bf16 := m ((c : Thread nD τ).loc main_arg2)
abbrev aKC (c : Dev nD) : FVec Ideal S8x256x128 .bf16 := m ((c : Thread nD τ).loc main_arg3)
abbrev aVC (c : Dev nD) : FVec Ideal S8x256x128 .bf16 := m ((c : Thread nD τ).loc main_arg4)
abbrev aS (c : Dev nD) : FVec Ideal S8 .f32 := m ((c : Thread nD τ).loc main_arg5)

section Blocks

variable (c : Dev nD) (t : Fin cfg0.N)

theorem blkQ (r : Fin 128) (e : Fin 512) :
    (show FVec Ideal S1x128x512 .bf16 from iblk m c 0 t) (ix3 0 r e) = aQ m c (ix3 (pb t) (tok (pn t) r) e) := by
  blk_ext [iblk, V, idx t, pb, pn, tok, aQ]

theorem blk1 (r e : Fin 128) (h : 1 ≤ (pn t : ℕ)) :
    (show FVec Ideal S1x128x128 .bf16 from iblk m c 1 t) (ix3 0 r e)
      = aK m c (ix3 (pb t) ⟨((pn t : ℕ) - 1) * 128 + r, by omega⟩ e) := by
  blk_ext [iblk, V, idx t, pb, pn, tok, aK]

theorem blk2 (r e : Fin 128) :
    (show FVec Ideal S1x128x128 .bf16 from iblk m c 2 t) (ix3 0 r e) = aK m c (ix3 (pb t) (tok (pn t) r) e) := by
  blk_ext [iblk, V, idx t, pb, pn, tok, aK]

theorem blk3 (r e : Fin 128) (h : (pn t : ℕ) ≤ 30) :
    (show FVec Ideal S1x128x128 .bf16 from iblk m c 3 t) (ix3 0 r e)
      = aK m c (ix3 (pb t) ⟨((pn t : ℕ) + 1) * 128 + r, by omega⟩ e) := by
  have h' : t.val % 32 ≤ 30 := h
  blk_ext [iblk, V, idx t, pb, pn, tok, aK]

theorem blk4 (r e : Fin 128) (h : 1 ≤ (pn t : ℕ)) :
    (show FVec Ideal S1x128x128 .bf16 from iblk m c 4 t) (ix3 0 r e)
      = aV m c (ix3 (pb t) ⟨((pn t : ℕ) - 1) * 128 + r, by omega⟩ e) := by
  blk_ext [iblk, V, idx t, pb, pn, tok, aV]

theorem blk5 (r e : Fin 128) :
    (show FVec Ideal S1x128x128 .bf16 from iblk m c 5 t) (ix3 0 r e) = aV m c (ix3 (pb t) (tok (pn t) r) e) := by
  blk_ext [iblk, V, idx t, pb, pn, tok, aV]

theorem blk6 (r e : Fin 128) (h : (pn t : ℕ) ≤ 30) :
    (show FVec Ideal S1x128x128 .bf16 from iblk m c 6 t) (ix3 0 r e)
      = aV m c (ix3 (pb t) ⟨((pn t : ℕ) + 1) * 128 + r, by omega⟩ e) := by
  have h' : t.val % 32 ≤ 30 := h
  blk_ext [iblk, V, idx t, pb, pn, tok, aV]

theorem blk7 (r : Fin 256) (e : Fin 128) :
    (show FVec Ideal S1x256x128 .bf16 from iblk m c 7 t) (ix3 0 r e) = aKC m c (ix3 (pb t) r e) := by
  blk_ext [iblk, V, idx t, pb, aKC]

theorem blk8 (r : Fin 256) (e : Fin 128) :
    (show FVec Ideal S1x256x128 .bf16 from iblk m c 8 t) (ix3 0 r e) = aVC m c (ix3 (pb t) r e) := by
  blk_ext [iblk, V, idx t, pb, aVC]

theorem blk9 (h : Fin 8) :
    (show FVec Ideal S1x8 .f32 from iblk m c 9 t) (ix2 0 h) = aS m c (ix1 h) := by
  blk_simp [iblk]
  entry_read
  pointwise
  blk_ext [idx t, aS]

/-! The operands of the heads at this point. -/

theorem kcat (k : Fin 640) (e : Fin 128)
    (hv : 384 ≤ (k : ℕ) ∨ 128 ≤ (pn t : ℕ) * 128 + k ∧ (pn t : ℕ) * 128 + k < 4224) :
    (k0_pay3 (F := Ideal) (View.ld (iblk m c 1 t) r0_1) (View.ld (iblk m c 2 t) r0_1) (View.ld (iblk m c 3 t) r0_1)
        (View.ld (iblk m c 7 t) r0_2) : FVec Ideal S640x128 .bf16) (ix2 k e)
      = cat (aK m c) (aKC m c) (pb t) (pn t) k e :=
  keys_at (aK m c) (aKC m c) (pb t) (pn t) _ _ _ _
    (fun r d h => by pointwise; exact blk1 m c t r d h) (fun r d => by pointwise; exact blk2 m c t r d)
    (fun r d h => by pointwise; exact blk3 m c t r d h) (fun r d => by pointwise; exact blk7 m c t r d) k e hv

theorem vcat (k : Fin 640) (e : Fin 128)
    (hv : 384 ≤ (k : ℕ) ∨ 128 ≤ (pn t : ℕ) * 128 + k ∧ (pn t : ℕ) * 128 + k < 4224) :
    (k0_pay4 (F := Ideal) (View.ld (iblk m c 4 t) r0_1) (View.ld (iblk m c 5 t) r0_1) (View.ld (iblk m c 6 t) r0_1)
        (View.ld (iblk m c 8 t) r0_2) : FVec Ideal S640x128 .bf16) (ix2 k e)
      = cat (aV m c) (aVC m c) (pb t) (pn t) k e :=
  keys_at (aV m c) (aVC m c) (pb t) (pn t) _ _ _ _
    (fun r d h => by pointwise; exact blk4 m c t r d h) (fun r d => by pointwise; exact blk5 m c t r d)
    (fun r d h => by pointwise; exact blk6 m c t r d h) (fun r d => by pointwise; exact blk8 m c t r d) k e hv

theorem mask (r : Fin 128) (k : Fin 640) :
    k0_pay8 (iota .tc S128x640 32 [0] iota_S128x640_d0_w32) (iota .tc S128x640 32 [1] iota_S128x640_d1_w32) k0_pay5
        (k0_pay6 (grid0.coords t)) k0_pay7 (ix2 r k)
      = if Sees (pn t) r k then 1#1 else 0#1 :=
  valid_at (pn t) (grid0.coords t) (idx t).2.2.2.2.2.2.2.2.2.2.2 r k

end Blocks

/-- One piece of the output's staging buffer: head `h`, columns `64 * h …`. -/
theorem piece (c : Dev nD) (t : Fin cfg0.N) (h : Fin 8) (y : S1x128x512.Idx) (x : S1x128x64.Idx)
    (h1 : (y 1 : ℕ) = x 1) (h2 : (y 2 : ℕ) = 64 * h + x 2)
    (q : FVec Ideal S128x64 .bf16) (kk vv : FVec Ideal S640x64 .bf16) (va : IVec S128x640 1) (s : FVec Ideal S1x1 .f32)
    (hq : ∀ (r : Fin 128) (e : Fin 64), q (ix2 r e) = aQ m c (ix3 (pb t) (tok (pn t) r) (ql h e)))
    (hk : ∀ (k : Fin 640) (e : Fin 64),
      (384 ≤ (k : ℕ) ∨ 128 ≤ (pn t : ℕ) * 128 + k ∧ (pn t : ℕ) * 128 + k < 4224) →
      kk (ix2 k e) = cat (aK m c) (aKC m c) (pb t) (pn t) k (kl h e))
    (hv : ∀ (k : Fin 640) (e : Fin 64),
      (384 ≤ (k : ℕ) ∨ 128 ≤ (pn t : ℕ) * 128 + k ∧ (pn t : ℕ) * 128 + k < 4224) →
      vv (ix2 k e) = cat (aV m c) (aVC m c) (pb t) (pn t) k (kl h e))
    (hva : ∀ (r : Fin 128) (k : Fin 640), va (ix2 r k) = if Sees (pn t) r k then 1#1 else 0#1)
    (hs : s (ix2 0 0) = aS m c (ix1 h)) :
    headOut (scores q kk va) s vv x
      = out (aQ m c) (aK m c) (aV m c) (aKC m c) (aVC m c) (aS m c) (pb t) (pn t) (y 1)
          ⟨(y 2).val / 64, by have : (y 2).val < 512 := (y 2).isLt; omega⟩ ⟨(y 2).val % 64, by omega⟩ := by
  have hx2 : (x 2 : ℕ) < 64 := (x 2).isLt
  refine (congrArg _ (eq_ix3 x)).trans ((core (aQ m c) (aK m c) (aV m c) (aKC m c) (aVC m c) (aS m c) (pb t) (pn t) h
    q kk vv va s hq hk hv hva hs (x 0) (x 1) (x 2)).trans ?_)
  congr 1 <;> apply Fin.ext
  · exact h1.symm
  · show (h : ℕ) = (y 2).val / 64; omega
  · show (x 2 : ℕ) = (y 2).val % 64; omega

/-- What the body leaves in the output's staging buffer at grid point `t`. -/
theorem point (c : Dev nD) (t : Fin cfg0.N) (y : S1x128x512.Idx) :
    out0_10 (F := Ideal) (grid0.coords t) (iblk m c 0 t) (iblk m c 1 t) (iblk m c 2 t) (iblk m c 3 t) (iblk m c 4 t)
        (iblk m c 5 t) (iblk m c 6 t) (iblk m c 7 t) (iblk m c 8 t) (iblk m c 9 t) y
      = out (aQ m c) (aK m c) (aV m c) (aKC m c) (aVC m c) (aS m c) (pb t) (pn t) (y 1)
          ⟨(y 2).val / 64, by have : (y 2).val < 512 := (y 2).isLt; omega⟩ ⟨(y 2).val % 64, by omega⟩ := by
  unfold out0_10
  canon_tiles y h
  case piece0 =>
    refine (congrFun (store7 _ _ _ _ _) _).trans (piece m c t 7 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay45, k0_pay23, k0_pay37]
      exact (kcat m c t k _ hv).trans (congrArg _ (Fin.ext (by simp [kl] <;> omega)))
    · intro k e hv; pointwise [k0_pay46, k0_pay24, k0_pay38]
      exact (vcat m c t k _ hv).trans (congrArg _ (Fin.ext (by simp [kl] <;> omega)))
    · pointwise; exact blk9 m c t 7
  case piece1 =>
    refine (congrFun (store6 _ _ _ _ _) _).trans (piece m c t 6 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay45, k0_pay23, k0_pay37]
      exact (kcat m c t k _ hv).trans (congrArg _ (Fin.ext (by simp [kl] <;> omega)))
    · intro k e hv; pointwise [k0_pay46, k0_pay24, k0_pay38]
      exact (vcat m c t k _ hv).trans (congrArg _ (Fin.ext (by simp [kl] <;> omega)))
    · pointwise; exact blk9 m c t 6
  case piece2 =>
    refine (congrFun (store5 _ _ _ _ _) _).trans (piece m c t 5 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay45, k0_pay23, k0_pay37]
      exact (kcat m c t k _ hv).trans (congrArg _ (Fin.ext (by simp [kl] <;> omega)))
    · intro k e hv; pointwise [k0_pay46, k0_pay24, k0_pay38]
      exact (vcat m c t k _ hv).trans (congrArg _ (Fin.ext (by simp [kl] <;> omega)))
    · pointwise; exact blk9 m c t 5
  case piece3 =>
    refine (congrFun (store4 _ _ _ _ _) _).trans (piece m c t 4 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay23, k0_pay37]
      exact (kcat m c t k _ hv).trans (congrArg _ (Fin.ext (by simp [kl] <;> omega)))
    · intro k e hv; pointwise [k0_pay24, k0_pay38]
      exact (vcat m c t k _ hv).trans (congrArg _ (Fin.ext (by simp [kl] <;> omega)))
    · pointwise; exact blk9 m c t 4
  case piece4 =>
    refine (congrFun (store3 _ _ _ _ _) _).trans (piece m c t 3 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay43, k0_pay9, k0_pay37]
      exact (kcat m c t k _ hv).trans (congrArg _ (Fin.ext (by simp [kl] <;> omega)))
    · intro k e hv; pointwise [k0_pay44, k0_pay10, k0_pay38]
      exact (vcat m c t k _ hv).trans (congrArg _ (Fin.ext (by simp [kl] <;> omega)))
    · pointwise; exact blk9 m c t 3
  case piece5 =>
    refine (congrFun (store2 _ _ _ _ _) _).trans (piece m c t 2 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay43, k0_pay9, k0_pay37]
      exact (kcat m c t k _ hv).trans (congrArg _ (Fin.ext (by simp [kl] <;> omega)))
    · intro k e hv; pointwise [k0_pay44, k0_pay10, k0_pay38]
      exact (vcat m c t k _ hv).trans (congrArg _ (Fin.ext (by simp [kl] <;> omega)))
    · pointwise; exact blk9 m c t 2
  case piece6 =>
    refine (congrFun (store1 _ _ _ _ _) _).trans (piece m c t 1 _ _ h1 h2 _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay43, k0_pay9, k0_pay37]
      exact (kcat m c t k _ hv).trans (congrArg _ (Fin.ext (by simp [kl] <;> omega)))
    · intro k e hv; pointwise [k0_pay44, k0_pay10, k0_pay38]
      exact (vcat m c t k _ hv).trans (congrArg _ (Fin.ext (by simp [kl] <;> omega)))
    · pointwise; exact blk9 m c t 1
  case piece7 =>
    refine (congrFun (store0 _ _ _ _ _ _ _ _ _) _).trans (piece m c t 0 _ _ h1 (h2.trans (Nat.zero_add _).symm) _ _ _ _ _ ?_ ?_ ?_ (mask t) ?_)
    · intro r e; pointwise [k0_pay36, k0_pay2]; exact (blkQ m c t r _).trans (congrArg _ (congrArg _ (Fin.ext (by simp [ql] <;> omega))))
    · intro k e hv; pointwise [k0_pay9, k0_pay37]
      exact (kcat m c t k _ hv).trans (congrArg _ (Fin.ext (by simp [kl] <;> omega)))
    · intro k e hv; pointwise [k0_pay10, k0_pay38]
      exact (vcat m c t k _ hv).trans (congrArg _ (Fin.ext (by simp [kl] <;> omega)))
    · pointwise; exact blk9 m c t 0

theorem final (c : Dev nD) : (dats m 0 c).arrAt 10 (cfgs 0).N
    = G (aQ m c) (aK m c) (aV m c) (aKC m c) (aVC m c) (aS m c) := by
  refine (dats m 0 c).arrAt_eq_of_covers 10 _ covers fun t _ y => ?_
  blk_simp
  rw [after0_10]
  refine (point m c t y).trans ?_
  have ht : t.val < 256 := lt_of_lt_of_eq t.isLt N_0
  have y0 : ((y 0 : Fin 1) : ℕ) < 1 := (y 0).isLt
  have y1 : ((y 1 : Fin 128) : ℕ) < 128 := (y 1).isLt
  have e0 : (((win0_10.blk t).view.emb y 0 : Fin 8) : ℕ) = t.val / 32 := by
    blk_simp [idx t]
  have e1 : (((win0_10.blk t).view.emb y 1 : Fin 4096) : ℕ) = t.val % 32 * 128 + (y 1 : Fin 128) := by
    blk_simp [idx t]
  have e2 : (((win0_10.blk t).view.emb y 2 : Fin 512) : ℕ) = (y 2 : Fin 512) := by
    blk_simp [idx t]
  unfold G
  congr 1 <;> apply Fin.ext
  · exact e0.symm
  · show t.val % 32 = _ / 128; rw [e1]; omega
  · show ((y 1 : Fin 128) : ℕ) = _ % 128; rw [e1]; omega
  · show _ = _ / 64; rw [e2]
  · show _ = _ % 64; rw [e2]

end Cert.AttnIdeal.Hand
-- ==== Proof.Attn.RefLocal.lean ====
/-
The reference attention's own arrays at an index: the blocks of keys around a block of queries, the context, the mask.
-/
module

public import proofs.«01_k».proof.Proof.Gen.AttnRefIdeal.Read
public import proofs.«01_k».proof.Proof.Attn.Mask
public import Idealize.ShloMosaic.Lib.KernelVsHost

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe Idealize.SL.Sem
open Cert.AttnIdeal.Hand

variable (x0 : FVec Ideal S8x4096x512 .bf16) (x1 x2 : FVec Ideal S8x4096x128 .bf16) (x3 x4 : FVec Ideal S8x256x128 .bf16)
  (x5 : FVec Ideal S8 .f32)

theorem zero_word : (FloatOps.sitofp .f32 0#32 : Ideal .f32) = (0 : EReal) :=
  sitofp_zero

/-- The keys with a block of zeros at each end. -/
theorem v7_at (b : Fin 8) (p : Fin 4352) (g : Fin 2) (e : Fin 64) :
    val_main_v7 (F := Ideal) x1 (ix4 b p g e)
      = if h : 128 ≤ (p : ℕ) ∧ (p : ℕ) < 4224 then x1 (ix3 b ⟨(p : ℕ) - 128, by omega⟩ ⟨(g : ℕ) * 64 + e, by omega⟩)
        else 0 := by
  pointwise [val_main_v7, val_main_v6, val_main_v1, val_main_call0_v0, val_main_c]
  by_cases h : 128 ≤ (p : ℕ) ∧ (p : ℕ) < 4224
  · rw [dif_pos h, dif_pos (by omega)]
  · rw [dif_neg h, dif_neg (by omega)]
    exact zero_word

theorem v8_at (b : Fin 8) (m : Fin 34) (r : Fin 128) (g : Fin 2) (e : Fin 64) :
    val_main_v8 (F := Ideal) x1 (ix5 b m r g e)
      = val_main_v7 (F := Ideal) x1 (ix4 b ⟨(m : ℕ) * 128 + r, by omega⟩ g e) := by
  pointwise [val_main_v8]

/-- The keys around block `n`: the first 384 of those it sees. -/
theorem v12_at (b : Fin 8) (n : Fin 32) (k : Fin 384) (g : Fin 2) (e : Fin 64) :
    val_main_v12 (F := Ideal) x1 (ix5 b n k g e)
      = cat x1 x3 b n ⟨k, by omega⟩ ⟨(g : ℕ) * 64 + e, by omega⟩ := by
  have key : ∀ (m : Fin 34) (r : Fin 128), (m : ℕ) * 128 + r = (n : ℕ) * 128 + k →
      val_main_v8 (F := Ideal) x1 (ix5 b m r g e) = cat x1 x3 b n ⟨k, by omega⟩ ⟨(g : ℕ) * 64 + e, by omega⟩ := by
    intro m r h
    rw [v8_at, v7_at]
    unfold cat
    rw [dif_pos (show ((⟨k, by omega⟩ : Fin 640) : ℕ) < 384 from k.isLt)]
    by_cases hr : 128 ≤ (n : ℕ) * 128 + k ∧ (n : ℕ) * 128 + k < 4224
    · rw [dif_pos (by show 128 ≤ (m : ℕ) * 128 + r ∧ (m : ℕ) * 128 + r < 4224; omega), dif_pos hr]
      exact congrArg x1 (congrArg (fun s => ix3 b s _) (Fin.ext (by
        show (m : ℕ) * 128 + r - 128 = (n : ℕ) * 128 + k - 128; omega)))
    · rw [dif_neg (by show ¬(128 ≤ (m : ℕ) * 128 + r ∧ (m : ℕ) * 128 + r < 4224); omega), dif_neg hr]
  pointwise [val_main_v12, val_main_v9, val_main_v10, val_main_v11]
  by_cases h : (k : ℕ) < 128
  · rw [dif_pos h]
    exact key _ _ (by show (n : ℕ) * 128 + k = _; omega)
  · rw [dif_neg h]
    by_cases h' : (k : ℕ) - 128 < 128
    · rw [dif_pos h']
      exact key _ _ (by show (1 + (n : ℕ)) * 128 + (k - 128) = _; omega)
    · rw [dif_neg h']
      exact key _ _ (by show (2 + (n : ℕ)) * 128 + (k - 128 - 128) = _; omega)

/-- The values go the keys' way. -/
theorem v19_eq : val_main_v19 (F := Ideal) x2 = val_main_v12 (F := Ideal) x2 := rfl

theorem v5_at (b : Fin 8) (n : Fin 32) (r : Fin 128) (g : Fin 2) (q : Fin 4) (e : Fin 64) :
    val_main_v5 (F := Ideal) x0 (ix6 b n r g q e)
      = x0 (ix3 b (tok n r) (ql ⟨(g : ℕ) * 4 + q, by omega⟩ e)) := by
  pointwise [val_main_v5, val_main_v0]
  exact congrArg x0 (congrArg (fun s => ix3 b (tok n r) s) (Fin.ext (by
    show (g : ℕ) * 256 + q * 64 + e = (g * 4 + q) * 64 + e; omega)))

theorem v20_at (b : Fin 8) (k : Fin 256) (g : Fin 2) (e : Fin 64) :
    val_main_v20 (F := Ideal) x3 (ix4 b k g e) = x3 (ix3 b k ⟨(g : ℕ) * 64 + e, by omega⟩) := by
  pointwise [val_main_v20, val_main_v3]

theorem v21_eq : val_main_v21 (F := Ideal) x4 = val_main_v20 (F := Ideal) x4 := rfl

/-- The mask of the window and of the ends of the sequence. -/
theorem v51_at (n : Fin 32) (r : Fin 128) (k : Fin 384) :
    val_main_v51 (F := Ideal) (ix3 n r k) = if Sees n r ⟨k, by omega⟩ then 1#1 else 0#1 := by
  pointwise [val_main_v51, val_main_v50, val_main_v49, val_main_v48, val_main_c_5, val_main_v47, val_main_v46,
    val_main_v45, val_main_v44, val_main_v43, val_main_v42, val_main_c_4, val_main_v41, val_main_v40, val_main_c_3,
    val_main_v39, val_main_v38, val_main_v37, val_main_v36, val_main_v35, val_main_v34, val_main_v33, val_main_v32,
    val_main_v31, val_main_v30, val_main_c_2, val_main_v29, val_main_v28, val_main_v27, val_main_v26, val_main_c_1,
    val_main_v25, val_main_v24, val_main_v23, val_main_v22]
  rw [near_word r k r.isLt (by omega), pos_ge_word n k n.isLt (by omega), pos_lt_word n k n.isLt (by omega), bit_and,
    bit_and]
  refine bit_if _ _ ?_
  simp only [Bool.and_eq_true, decide_eq_true_eq]
  show _ ↔ 384 ≤ (k : ℕ) ∨ ((r : ℕ) ≤ k ∧ (k : ℕ) ≤ r + 256) ∧ 128 ≤ (n : ℕ) * 128 + k ∧ (n : ℕ) * 128 + k < 4224
  have := k.isLt
  omega

end Cert.AttnRefIdeal.Hand
-- ==== Proof.Attn.RefSoft.lean ====
/-
The reference attention's result: the softmax over the keys around a block and the context, and the sink.
-/
module

public import proofs.«01_k».proof.Proof.Attn.RefLocal

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe Idealize.SL.Sem
open Cert.AttnIdeal.Hand

/-- Of the 640 keys, those around the block and those of the context; the query head of a group. -/
def kLoc (k : Fin 384) : Fin 640 := ⟨k, by omega⟩
def kCtx (k : Fin 256) : Fin 640 := ⟨384 + (k : ℕ), by omega⟩
def qHead (g : Fin 2) (q : Fin 4) : Fin 8 := ⟨(g : ℕ) * 4 + q, by omega⟩

theorem sum_keys (f : Fin 640 → EReal) : ∑ k, f k = (∑ k, f (kLoc k)) + ∑ k, f (kCtx k) :=
  Fin.sum_univ_add (a := 384) (b := 256) f

theorem max_keys (f : Fin 640 → EReal) : Finset.univ.fold max ⊥ f
    = max (Finset.univ.fold max ⊥ fun k => f (kLoc k)) (Finset.univ.fold max ⊥ fun k => f (kCtx k)) := by
  refine le_antisymm ((Finset.fold_max_le _).2 ⟨bot_le, fun k _ => ?_⟩)
    (max_le ((Finset.fold_max_le _).2 ⟨bot_le, fun k _ => (Finset.le_fold_max _).2 (Or.inr ⟨_, Finset.mem_univ _, le_rfl⟩)⟩)
      ((Finset.fold_max_le _).2 ⟨bot_le, fun k _ => (Finset.le_fold_max _).2 (Or.inr ⟨_, Finset.mem_univ _, le_rfl⟩)⟩))
  by_cases h : (k : ℕ) < 384
  · exact le_max_of_le_left ((Finset.le_fold_max _).2 (Or.inr ⟨⟨k, h⟩, Finset.mem_univ _, le_rfl⟩))
  · refine le_max_of_le_right ((Finset.le_fold_max _).2 (Or.inr ⟨⟨(k : ℕ) - 384, by omega⟩, Finset.mem_univ _, le_of_eq ?_⟩))
    exact congrArg f (Fin.ext (by show (k : ℕ) = 384 + (k - 384); omega))

/-- The largest of the scores and the sink, and the denominator. -/
def top (S : Fin 640 → EReal) (sk : EReal) : EReal :=
  max (max (Finset.univ.fold max ⊥ fun k => S (kLoc k)) (Finset.univ.fold max ⊥ fun k => S (kCtx k))) sk
def den (S : Fin 640 → EReal) (sk : EReal) : EReal :=
  (∑ k, Ideal.exp (S (kLoc k) - top S sk)) + (∑ k, Ideal.exp (S (kCtx k) - top S sk)) + Ideal.exp (sk - top S sk)

theorem soft_split (S : Fin 640 → EReal) (sk : EReal) (W : Fin 640 → EReal) :
    soft S sk W = (∑ k, W (kLoc k) * (Ideal.exp (S (kLoc k) - top S sk) * Ideal.div 1 (den S sk)))
      + ∑ k, W (kCtx k) * (Ideal.exp (S (kCtx k) - top S sk) * Ideal.div 1 (den S sk)) := by
  unfold soft
  rw [max_keys, sum_keys, sum_keys]
  exact congrArg₂ (· + ·) (Finset.sum_congr rfl fun k _ => mul_comm _ _) (Finset.sum_congr rfl fun k _ => mul_comm _ _)

/-- Reductions over the last of six axes. -/
theorem lift_last {n0 n1 n2 n3 n4 n5 : ℕ}
    (h : Shape.Reduces ⟨6, ![n0, n1, n2, n3, n4, n5]⟩ [5] ⟨5, ![n0, n1, n2, n3, n4]⟩)
    (a : Fin n0) (b : Fin n1) (c : Fin n2) (d : Fin n3) (e : Fin n4) (k : Fin n5) :
    h.lift (ix5 a b c d e) k = ix6 a b c d e k := by
  funext z
  match z with
  | 0 => exact Fin.ext rfl
  | 1 => exact Fin.ext rfl
  | 2 => exact Fin.ext rfl
  | 3 => exact Fin.ext rfl
  | 4 => exact Fin.ext rfl
  | 5 => exact Fin.ext rfl

theorem max_last {n0 n1 n2 n3 n4 n5 : ℕ} {u : Shape}
    (x : FVec Ideal ⟨6, ![n0, n1, n2, n3, n4, n5]⟩ .f32) (init : FVec Ideal u .f32)
    (h' : Shape.ReducesTo ⟨6, ![n0, n1, n2, n3, n4, n5]⟩ [5] ⟨5, ![n0, n1, n2, n3, n4]⟩)
    (h : Shape.Reduces ⟨6, ![n0, n1, n2, n3, n4, n5]⟩ [5] ⟨5, ![n0, n1, n2, n3, n4]⟩) (hu : 0 < u.numel)
    (hi : init (Shape.Idx.first hu) = (⊥ : EReal))
    (a : Fin n0) (b : Fin n1) (c : Fin n2) (d : Fin n3) (e : Fin n4) :
    Host.reduce (FloatOps.maximumf (F := Ideal) (φ := .f32)) x init h' hu (ix5 a b c d e)
      = Finset.univ.fold max (⊥ : EReal) fun k => (x (ix6 a b c d e k) : EReal) := by
  refine (Host.reduce_eq_fold_single (max : EReal → EReal → EReal) x init h' h hu (ix5 a b c d e)).trans ?_
  rw [hi]
  exact congrArg (Finset.univ.fold max (⊥ : EReal)) (funext fun k => congrArg x (lift_last h a b c d e k))

theorem add_last {n0 n1 n2 n3 n4 n5 : ℕ} {u : Shape}
    (x : FVec Ideal ⟨6, ![n0, n1, n2, n3, n4, n5]⟩ .f32) (init : FVec Ideal u .f32)
    (h' : Shape.ReducesTo ⟨6, ![n0, n1, n2, n3, n4, n5]⟩ [5] ⟨5, ![n0, n1, n2, n3, n4]⟩)
    (h : Shape.Reduces ⟨6, ![n0, n1, n2, n3, n4, n5]⟩ [5] ⟨5, ![n0, n1, n2, n3, n4]⟩) (hu : 0 < u.numel)
    (hi : init (Shape.Idx.first hu) = (0 : EReal))
    (a : Fin n0) (b : Fin n1) (c : Fin n2) (d : Fin n3) (e : Fin n4) :
    Host.reduceAdd x init h' hu (ix5 a b c d e) = (∑ k, x (ix6 a b c d e k) : EReal) := by
  refine (Ideal.hostReduceAdd_single h' h x (init (Shape.Idx.first hu)) (ix5 a b c d e)).trans ?_
  rw [hi, zero_add]
  exact Finset.sum_congr rfl fun k _ => congrArg x (lift_last h a b c d e k)

variable (x0 : FVec Ideal S8x4096x512 .bf16) (x1 x2 : FVec Ideal S8x4096x128 .bf16) (x3 x4 : FVec Ideal S8x256x128 .bf16)
  (x5 : FVec Ideal S8 .f32)

theorem pick (p : Prop) [Decidable p] (a b : EReal) :
    (Scalar.select (if p then 1#1 else 0#1) a b : EReal) = if p then a else b := by
  by_cases h : p
  · rw [if_pos h, if_pos h]; rfl
  · rw [if_neg h, if_neg h]; rfl

theorem lane (g : Fin 2) (q : Fin 4) (e : Fin 64) : (⟨(g : ℕ) * 64 + e, by omega⟩ : Fin 128) = kl (qHead g q) e :=
  Fin.ext (by show (g : ℕ) * 64 + e = (g * 4 + q) / 4 * 64 + e; omega)

theorem cat_ctx (a : FVec Ideal S8x4096x128 .bf16) (c : FVec Ideal S8x256x128 .bf16) (b : Fin 8) (n : Fin 32)
    (k : Fin 256) (l : Fin 128) : cat a c b n (kCtx k) l = c (ix3 b k l) := by
  unfold cat
  rw [dif_neg (by show ¬ 384 + (k : ℕ) < 384; omega)]
  exact congrArg (fun z => c (ix3 b z l)) (Fin.ext (by show 384 + (k : ℕ) - 384 = k; omega))

theorem zero_bits : Ideal.ofBits .f32 0x00000000#32 = 0 := by simp [Ideal.ofBits, Ideal.ieee]

theorem reduces_384 : Shape.Reduces S8x32x2x4x128x384 [5] S8x32x2x4x128 := by decide
theorem reduces_256 : Shape.Reduces S8x32x2x4x128x256 [5] S8x32x2x4x128 := by decide

theorem cst_8 : val_main_cst_8 (F := Ideal) (Shape.Idx.first h_S_) = (⊥ : EReal) := neg_inf
theorem cst_9 : val_main_cst_9 (F := Ideal) (Shape.Idx.first h_S_) = (⊥ : EReal) := neg_inf
theorem cst_10 : val_main_cst_10 (F := Ideal) (Shape.Idx.first h_S_) = (0 : EReal) := zero_bits
theorem cst_11 : val_main_cst_11 (F := Ideal) (Shape.Idx.first h_S_) = (0 : EReal) := zero_bits

/-- The scores around the block, and against the context. -/
theorem v57_at (b : Fin 8) (n : Fin 32) (g : Fin 2) (q : Fin 4) (r : Fin 128) (k : Fin 384) :
    val_main_v57 (F := Ideal) x0 x1 (ix6 b n g q r k) = score x0 x1 x3 b n r (qHead g q) (kLoc k) := by
  pointwise [val_main_v57, val_main_call2_v1, val_main_v56, v51_at, val_main_v55, val_main_v54, val_main_cst,
    val_main_v53, val_main_v52, v12_at x1 x3, v5_at, val_main_call2_v2, val_main_call2_v0, val_main_cst_6, neg_inf]
  refine (pick _ _ _).trans (if_congr Iff.rfl (congrArg (fun s : EReal => s * _) (Finset.sum_congr rfl fun e _ => ?_)) neg_inf)
  rw [lane g q e]
  exact mul_comm _ _

theorem v61_at (b : Fin 8) (n : Fin 32) (g : Fin 2) (q : Fin 4) (r : Fin 128) (k : Fin 256) :
    val_main_v61 (F := Ideal) x0 x3 (ix6 b n g q r k) = score x0 x1 x3 b n r (qHead g q) (kCtx k) := by
  pointwise [val_main_v61, val_main_v60, val_main_cst_7, val_main_v59, val_main_v58, v20_at, v5_at]
  unfold score
  rw [if_pos (show Sees n r (kCtx k) from Or.inl (by show 384 ≤ 384 + (k : ℕ); omega))]
  refine congrArg (fun s : EReal => s * _) (Finset.sum_congr rfl fun e _ => ?_)
  rw [lane g q e, cat_ctx x1 x3 b n k]
  exact mul_comm _ _

theorem v64_at (b : Fin 8) (n : Fin 32) (g : Fin 2) (q : Fin 4) (r : Fin 128) :
    val_main_v64 (F := Ideal) x0 x1 (ix5 b n g q r)
      = Finset.univ.fold max (⊥ : EReal) fun k => score x0 x1 x3 b n r (qHead g q) (kLoc k) :=
  (max_last (val_main_v57 (F := Ideal) x0 x1) (val_main_cst_8 (F := Ideal)) reducesTo_S8x32x2x4x128x384_S8x32x2x4x128_d5
    reduces_384 h_S_ cst_8 b n g q r).trans
    (congrArg (Finset.univ.fold max (⊥ : EReal)) (funext fun k => v57_at x0 x1 x3 b n g q r k))

theorem v66_at (b : Fin 8) (n : Fin 32) (g : Fin 2) (q : Fin 4) (r : Fin 128) :
    val_main_v66 (F := Ideal) x0 x3 (ix5 b n g q r)
      = Finset.univ.fold max (⊥ : EReal) fun k => score x0 x1 x3 b n r (qHead g q) (kCtx k) :=
  (max_last (val_main_v61 (F := Ideal) x0 x3) (val_main_cst_9 (F := Ideal)) reducesTo_S8x32x2x4x128x256_S8x32x2x4x128_d5
    reduces_256 h_S_ cst_9 b n g q r).trans
    (congrArg (Finset.univ.fold max (⊥ : EReal)) (funext fun k => v61_at x0 x1 x3 b n g q r k))

/-- A further axis of size one; the sink's logit on every row. -/
theorem keep_at (y : FVec Ideal S8x32x2x4x128 .f32) (b : Fin 8) (n : Fin 32) (g : Fin 2) (q : Fin 4) (r : Fin 128) (z : Fin 1) :
    broadcastInDim S8x32x2x4x128x1 ![0, 1, 2, 3, 4] bcast_S8x32x2x4x128_S8x32x2x4x128x1_0_1_2_3_4 y (ix6 b n g q r z)
      = y (ix5 b n g q r) := by
  pointwise []

theorem v70_at (b : Fin 8) (n : Fin 32) (g : Fin 2) (q : Fin 4) (r : Fin 128) (z : Fin 1) :
    val_main_v70 (F := Ideal) x5 (ix6 b n g q r z) = x5 (ix1 (qHead g q)) := by
  pointwise [val_main_v70, val_main_v69, val_main_v63, val_main_v62]
  rfl

theorem max_at {t : Shape} (a c : FVec Ideal t .f32) (i : t.Idx) :
    (maximumf a c i : EReal) = max (a i : EReal) (c i : EReal) := rfl

theorem v65_eq : val_main_v65 (F := Ideal) x0 x1 = broadcastInDim S8x32x2x4x128x1 ![0, 1, 2, 3, 4]
    bcast_S8x32x2x4x128_S8x32x2x4x128x1_0_1_2_3_4 (val_main_v64 (F := Ideal) x0 x1) := rfl

theorem v67_eq : val_main_v67 (F := Ideal) x0 x3 = broadcastInDim S8x32x2x4x128x1 ![0, 1, 2, 3, 4]
    bcast_S8x32x2x4x128_S8x32x2x4x128x1_0_1_2_3_4 (val_main_v66 (F := Ideal) x0 x3) := rfl

theorem v68_eq : val_main_v68 (F := Ideal) x0 x1 x3
    = maximumf (F := Ideal) (s := S8x32x2x4x128x1) (φ := .f32) (val_main_v65 (F := Ideal) x0 x1) (val_main_v67 (F := Ideal) x0 x3) := rfl

theorem v71_eq : val_main_v71 (F := Ideal) x0 x1 x3 x5
    = maximumf (F := Ideal) (s := S8x32x2x4x128x1) (φ := .f32) (val_main_v68 (F := Ideal) x0 x1 x3) (val_main_v70 (F := Ideal) x5) := rfl

theorem top_eq (S : Fin 640 → EReal) (sk : EReal) : top S sk
    = max (max (Finset.univ.fold max ⊥ fun k => S (kLoc k)) (Finset.univ.fold max ⊥ fun k => S (kCtx k))) sk := rfl

/-- The largest of them. -/
theorem v71_at (b : Fin 8) (n : Fin 32) (g : Fin 2) (q : Fin 4) (r : Fin 128) (z : Fin 1) :
    val_main_v71 (F := Ideal) x0 x1 x3 x5 (ix6 b n g q r z)
      = top (score x0 x1 x3 b n r (qHead g q)) (x5 (ix1 (qHead g q))) := by
  rw [v71_eq, max_at, v68_eq, max_at, v65_eq, keep_at, v67_eq, keep_at, v64_at x0 x1 x3, v66_at x0 x1 x3, v70_at,
    top_eq]

theorem v74_at (b : Fin 8) (n : Fin 32) (g : Fin 2) (q : Fin 4) (r : Fin 128) (k : Fin 384) :
    val_main_v74 (F := Ideal) x0 x1 x3 x5 (ix6 b n g q r k)
      = Ideal.exp (score x0 x1 x3 b n r (qHead g q) (kLoc k)
          - top (score x0 x1 x3 b n r (qHead g q)) (x5 (ix1 (qHead g q)))) := by
  pointwise [val_main_v74, val_main_v73, val_main_v72, v57_at x0 x1 x3, v71_at]

theorem v77_at (b : Fin 8) (n : Fin 32) (g : Fin 2) (q : Fin 4) (r : Fin 128) (k : Fin 256) :
    val_main_v77 (F := Ideal) x0 x1 x3 x5 (ix6 b n g q r k)
      = Ideal.exp (score x0 x1 x3 b n r (qHead g q) (kCtx k)
          - top (score x0 x1 x3 b n r (qHead g q)) (x5 (ix1 (qHead g q)))) := by
  pointwise [val_main_v77, val_main_v76, val_main_v75, v61_at x0 x1 x3, v71_at]

theorem v78_at (b : Fin 8) (n : Fin 32) (g : Fin 2) (q : Fin 4) (r : Fin 128) :
    val_main_v78 (F := Ideal) x0 x1 x3 x5 (ix5 b n g q r)
      = ∑ k : Fin 384, Ideal.exp (score x0 x1 x3 b n r (qHead g q) (kLoc k)
          - top (score x0 x1 x3 b n r (qHead g q)) (x5 (ix1 (qHead g q)))) :=
  (add_last (val_main_v74 (F := Ideal) x0 x1 x3 x5) (val_main_cst_10 (F := Ideal)) reducesTo_S8x32x2x4x128x384_S8x32x2x4x128_d5
    reduces_384 h_S_ cst_10 b n g q r).trans
    (Finset.sum_congr rfl fun k _ => v74_at x0 x1 x3 x5 b n g q r k)

theorem v80_at (b : Fin 8) (n : Fin 32) (g : Fin 2) (q : Fin 4) (r : Fin 128) :
    val_main_v80 (F := Ideal) x0 x1 x3 x5 (ix5 b n g q r)
      = ∑ k : Fin 256, Ideal.exp (score x0 x1 x3 b n r (qHead g q) (kCtx k)
          - top (score x0 x1 x3 b n r (qHead g q)) (x5 (ix1 (qHead g q)))) :=
  (add_last (val_main_v77 (F := Ideal) x0 x1 x3 x5) (val_main_cst_11 (F := Ideal)) reducesTo_S8x32x2x4x128x256_S8x32x2x4x128_d5
    reduces_256 h_S_ cst_11 b n g q r).trans
    (Finset.sum_congr rfl fun k _ => v77_at x0 x1 x3 x5 b n g q r k)

theorem v89_at (b : Fin 8) (n : Fin 32) (g : Fin 2) (q : Fin 4) (r : Fin 128) (z : Fin 1) :
    val_main_v89 (F := Ideal) x0 x1 x3 x5 (ix6 b n g q r z)
      = Ideal.div 1 (den (score x0 x1 x3 b n r (qHead g q)) (x5 (ix1 (qHead g q)))) := by
  pointwise [val_main_v89, val_main_v88, val_main_cst_12, val_main_v87, val_main_v86, val_main_v85, val_main_v84,
    val_main_v83, val_main_v63, val_main_v62, val_main_v82, val_main_v81, v80_at, val_main_v79, v78_at, v71_at, den]
  rfl

theorem v98_at (b : Fin 8) (n : Fin 32) (r : Fin 128) (g : Fin 2) (q : Fin 4) (d : Fin 64) :
    val_main_v98 (F := Ideal) x0 x1 x2 x3 x4 x5 (ix6 b n r g q d) = out x0 x1 x2 x3 x4 x5 b n r (qHead g q) d := by
  pointwise [val_main_v98, val_main_v97, val_main_v96, val_main_v95, val_main_v94, val_main_v93, val_main_v92,
    val_main_v91, val_main_v90, v19_eq, v21_eq, v12_at x2 x4, v20_at, v74_at, v77_at, v89_at]
  unfold out
  rw [soft_split]
  refine congrArg₂ (· + ·) (Finset.sum_congr rfl fun k _ => ?_) (Finset.sum_congr rfl fun k _ => ?_)
  · rw [← lane g q d]
    rfl
  · rw [cat_ctx, ← lane g q d]

theorem value : val_main_v100 (F := Ideal) x0 x1 x2 x3 x4 x5 = G x0 x1 x2 x3 x4 x5 := by
  funext i
  idx_vars i
  pointwise [val_main_v100, val_main_v99, v98_at, G]
  exact congrArg (fun h => out x0 x1 x2 x3 x4 x5 _ _ _ h _) (Fin.ext (by
    show (i2 : ℕ) / 256 * 4 + (i2 : ℕ) / 64 % 4 = i2 / 64; omega))

end Cert.AttnRefIdeal.Hand
-- ==== Proof.Attn.Claims.lean ====
/-
The four claims about the attention.
-/
module

public import proofs.«01_k».proof.Defs
public import proofs.«01_k».proof.Proof.Gen.Attn.Frame
public import proofs.«01_k».proof.Proof.Attn.Value
public import proofs.«01_k».proof.Proof.Attn.RefSoft
public import Idealize.ShloMosaic.Lib.Claim

@[expose] public section

set_option maxRecDepth 16384

noncomputable section

namespace Cert.AttnClaims

open Idealize.ShloMosaic Idealize.ShloMosaic.TcCoe Idealize.SL.Sem

/-- The attention's kernel stops without fault and leaves its arguments and the counters as they were. -/
theorem frame_p : Cert.quiescent_Attn := fun m ρ _ => Cert.Attn.Gen.frame m ρ

/-- The same of the kernel over the extended reals, its mask −∞. -/
theorem frame_pi : Cert.quiescent_AttnIdeal := fun m ρ _ => Cert.AttnIdeal.Gen.frame m ρ

/-- The same of the reference over the extended reals. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The mask's word named −∞ is the one rewrite. -/
theorem preserves : Cert.preserves_Attn_AttnIdeal :=
  IdealRules.named_const.statement Cert.AttnIdeal.κ "mask" .f32 0xF149F2CA#32 ⊥ rfl

/-- Kernel and reference leave the same array: both leave the formula `G` of their arguments. -/
theorem algebraic : Cert.algebraic_AttnIdeal_AttnRefIdeal := by
  pair_intro
  · run_from Cert.AttnIdeal.Gen.run_main m g
  · run_from Cert.AttnRefIdeal.Value.run m' g'
    obtain ⟨h0, h1, h2, h3, h4, h5⟩ := hagree c
    rw [Cert.AttnRefIdeal.Read.val_main_v100_eq, h0, h1, h2, h3, h4, h5]
    exact ((Cert.AttnRefIdeal.Hand.value _ _ _ _ _ _).trans (Cert.AttnIdeal.Hand.final m c).symm)

end Cert.AttnClaims
-- ==== Proof.Sgu.Spec.lean ====
/-
The spatial gating unit from scalars: the formula both programs are shown to compute.
-/
module

public import proofs.«01_k».proof.Proof.Gen.SguIdeal.Frame
public import Idealize.ShloMosaic.Lib.Pointwise
public import Idealize.ShloMosaic.Lib.Pipeline.ValueKit

@[expose] public section

set_option maxRecDepth 16384

noncomputable section

namespace Cert.SguIdeal.Hand

open Cert.SguIdeal Cert.SguIdeal.Gen Idealize.ShloMosaic Idealize.ShloMosaic.TcCoe Idealize.SL.Sem

/-- A row divided by its root mean square, times a weight. -/
def nrm (X W : Fin 1024 → EReal) (d : Fin 1024) : EReal :=
  X d * Ideal.rsqrt (Ideal.div (∑ k, X k * X k) (Ideal.ofBits .f32 0x44800000#32) + Ideal.ofBits .f32 0x358637BD#32)
    * W d

/-- The normalized row, scaled and shifted. -/
def hid (X W Sh Sc : Fin 1024 → EReal) (d : Fin 1024) : EReal :=
  nrm X W d * (1 + Sc d) + Sh d

/-- The activation, in its hyperbolic tangent form. -/
def gelu (z : EReal) : EReal :=
  z * (Ideal.ofBits .f32 0x3F000000#32 * (1 + Ideal.tanh (Ideal.ofBits .f32 0x3F4C422A#32
      * (z + Ideal.ofBits .f32 0x3D372713#32 * (z * (z * z))))))

/-- One of the 2048 activated columns of a token. -/
def act (X W Sh Sc : Fin 1024 → EReal) (A : Fin 1024 → Fin 2048 → EReal) (f : Fin 2048) : EReal :=
  gelu (∑ d, hid X W Sh Sc d * A d f)

def lo (c : Fin 1024) : Fin 2048 := ⟨c, by omega⟩
def hi (c : Fin 1024) : Fin 2048 := ⟨1024 + (c : ℕ), by omega⟩

/-- The group a column belongs to, and the token `q` of the chunk of 128 that token `s` belongs to. -/
def grp (c : Fin 1024) : Fin 8 := ⟨(c : ℕ) / 128, by omega⟩
def chunk {n : ℕ} (s : Fin (128 * n)) (q : Fin 128) : Fin (128 * n) := ⟨(s : ℕ) / 128 * 128 + q, by omega⟩
def inChunk {n : ℕ} (s : Fin (128 * n)) : Fin 128 := ⟨(s : ℕ) % 128, by omega⟩

/-- The gated column `c` of row `p` of a chunk, from the chunk's activated columns. -/
def mix (Z : Fin 128 → Fin 2048 → EReal) (GW : Fin 1024 → EReal) (WS : Fin 8 → Fin 128 → Fin 128 → EReal)
    (BS : Fin 8 → Fin 128 → EReal) (p : Fin 128) (c : Fin 1024) : EReal :=
  Z p (lo c) * ((∑ q, WS (grp c) p q * nrm (fun e => Z q (hi e)) GW c) + BS (grp c) p)

/-- The result at one token and column: the residual and the gated projection. -/
def res (Z : Fin 128 → Fin 2048 → EReal) (GW : Fin 1024 → EReal) (WS : Fin 8 → Fin 128 → Fin 128 → EReal)
    (BS : Fin 8 → Fin 128 → EReal) (B : Fin 1024 → Fin 1024 → EReal) (p : Fin 128) (x g : EReal) (o : Fin 1024) : EReal :=
  x + g * ∑ c, mix Z GW WS BS p c * B c o

theorem act_congr {X X' W W' Sh Sh' Sc Sc' : Fin 1024 → EReal} {A A' : Fin 1024 → Fin 2048 → EReal}
    (hX : ∀ d, X d = X' d) (hW : ∀ d, W d = W' d) (hSh : ∀ d, Sh d = Sh' d) (hSc : ∀ d, Sc d = Sc' d)
    (hA : ∀ d f, A d f = A' d f) (f : Fin 2048) : act X W Sh Sc A f = act X' W' Sh' Sc' A' f := by
  obtain rfl : X = X' := funext hX
  obtain rfl : W = W' := funext hW
  obtain rfl : Sh = Sh' := funext hSh
  obtain rfl : Sc = Sc' := funext hSc
  obtain rfl : A = A' := funext fun d => funext (hA d)
  rfl

theorem res_congr {Z Z' : Fin 128 → Fin 2048 → EReal} {GW GW' : Fin 1024 → EReal}
    {WS WS' : Fin 8 → Fin 128 → Fin 128 → EReal} {BS BS' : Fin 8 → Fin 128 → EReal} {B B' : Fin 1024 → Fin 1024 → EReal}
    {p p' : Fin 128} {x x' g g' : EReal} (hZ : ∀ q f, Z q f = Z' q f) (hG : ∀ e, GW e = GW' e)
    (hW : ∀ g p q, WS g p q = WS' g p q) (hb : ∀ g p, BS g p = BS' g p) (hB : ∀ c o, B c o = B' c o) (hp : p = p')
    (hx : x = x') (hg : g = g') (o : Fin 1024) : res Z GW WS BS B p x g o = res Z' GW' WS' BS' B' p' x' g' o := by
  obtain rfl : Z = Z' := funext fun q => funext (hZ q)
  obtain rfl : GW = GW' := funext hG
  obtain rfl : WS = WS' := funext fun g => funext fun p => funext (hW g p)
  obtain rfl : BS = BS' := funext fun g => funext (hb g)
  obtain rfl : B = B' := funext fun c => funext (hB c)
  rw [hp, hx, hg]

/-- The unit's result array. -/
def G (X : FVec Ideal S8x4096x1024 .f32) (NW : FVec Ideal S1024 .f32) (Sh Sc Ga : FVec Ideal S8x1024 .f32)
    (A : FVec Ideal S1024x2048 .f32) (GW : FVec Ideal S1024 .f32) (WS : FVec Ideal S8x128x128 .f32)
    (BS : FVec Ideal S8x128 .f32) (B : FVec Ideal S1024x1024 .f32) : FVec Ideal S8x4096x1024 .f32 := fun i =>
  res (fun q => act (fun d => X (ix3 (i 0 : Fin 8) (chunk (n := 32) (i 1) q) d)) (fun d => NW (ix1 d))
      (fun d => Sh (ix2 (i 0 : Fin 8) d)) (fun d => Sc (ix2 (i 0 : Fin 8) d)) (fun d f => A (ix2 d f)))
    (fun e => GW (ix1 e)) (fun g p q => WS (ix3 g p q)) (fun g p => BS (ix2 g p)) (fun c o => B (ix2 c o))
    (inChunk (n := 32) (i 1)) (X i) (Ga (ix2 (i 0 : Fin 8) (i 2 : Fin 1024))) (i 2)

end Cert.SguIdeal.Hand
-- ==== Proof.Sgu.Tile.lean ====
/-
One tile of the gated columns, as the kernel computes it: a chunk of 128 tokens, a group of 128 columns.
-/
module

public import proofs.«01_k».proof.Proof.Sgu.Spec

@[expose] public section

set_option maxRecDepth 16384

noncomputable section

namespace Cert.SguIdeal.Hand

open Cert.SguIdeal Cert.SguIdeal.Gen Idealize.ShloMosaic Idealize.ShloMosaic.TcCoe Idealize.SL.Sem

/-- The tile stored for one chunk and one group. -/
def tile (u : FVec Ideal S128x128 .f32) (v : FVec Ideal S128x128 .bf16) (w : FVec Ideal S1x128x128 .bf16)
    (b : FVec Ideal S128x1 .f32) : FVec Ideal S128x128 .bf16 :=
  shapeCast S128x128
    (truncf .bf16
      (mulf u
        (addf
          (matmul dot_S128x128_S128x128_S128x128_1_0_0_1_n_n none (shapeCast S128x128 w shapeCasts_S1x128x128_S128x128) v
            (constant S128x128 .f32 0x00000000#32))
          (broadcastTo S128x128 (shapeCast S128x1 b shapeCasts_S128x1_S128x1) broadcasts_S128x1_S128x128)))
      bitsLt_bf16_f32) shapeCasts_S128x128_S128x128

theorem tile_apply (u : FVec Ideal S128x128 .f32) (v : FVec Ideal S128x128 .bf16) (w : FVec Ideal S1x128x128 .bf16)
    (b : FVec Ideal S128x1 .f32) (p e : Fin 128) :
    tile u v w b (ix2 p e) = u (ix2 p e) * ((∑ q : Fin 128, w (ix3 0 p q) * v (ix2 q e)) + b (ix2 p 0)) := by
  pointwise [tile]

section Stores

variable (y z : FVec Ideal S256x2048 .f32) (n : FVec Ideal S1x1024 .f32) (U : FVec Ideal S256x1024 .f32)
  (V : FVec Ideal S256x1024 .bf16) (w : FVec Ideal S1x128x128 .bf16) (b : FVec Ideal S128x1 .f32)

theorem store0 : k0_pay7 y z n w b
    = tile (extractStridedSlice S128x128 ![0, 0] (k0_pay5 y z) slices_S256x1024_o0_0_S128x128)
        (extractStridedSlice S128x128 ![0, 0] (k0_pay6 y z n) slices_S256x1024_o0_0_S128x128) w b := rfl

theorem store1 : k0_pay9 U (k0_pay8 y z n w) b
    = tile (extractStridedSlice S128x128 ![0, 128] U slices_S256x1024_o0_128_S128x128)
        (extractStridedSlice S128x128 ![0, 128] (k0_pay6 y z n) slices_S256x1024_o0_128_S128x128) w b := rfl

theorem store2 : k0_pay10 U V w b
    = tile (extractStridedSlice S128x128 ![0, 256] U slices_S256x1024_o0_256_S128x128)
        (extractStridedSlice S128x128 ![0, 256] V slices_S256x1024_o0_256_S128x128) w b := rfl

theorem store3 : k0_pay11 U V w b
    = tile (extractStridedSlice S128x128 ![0, 384] U slices_S256x1024_o0_384_S128x128)
        (extractStridedSlice S128x128 ![0, 384] V slices_S256x1024_o0_384_S128x128) w b := rfl

theorem store4 : k0_pay12 U V w b
    = tile (extractStridedSlice S128x128 ![0, 512] U slices_S256x1024_o0_512_S128x128)
        (extractStridedSlice S128x128 ![0, 512] V slices_S256x1024_o0_512_S128x128) w b := rfl

theorem store5 : k0_pay13 U V w b
    = tile (extractStridedSlice S128x128 ![0, 640] U slices_S256x1024_o0_640_S128x128)
        (extractStridedSlice S128x128 ![0, 640] V slices_S256x1024_o0_640_S128x128) w b := rfl

theorem store6 : k0_pay16 U (k0_pay14 V w) (k0_pay15 b)
    = tile (extractStridedSlice S128x128 ![0, 768] U slices_S256x1024_o0_768_S128x128)
        (extractStridedSlice S128x128 ![0, 768] V slices_S256x1024_o0_768_S128x128) w b := rfl

theorem store7 : k0_pay17 U V w b
    = tile (extractStridedSlice S128x128 ![0, 896] U slices_S256x1024_o0_896_S128x128)
        (extractStridedSlice S128x128 ![0, 896] V slices_S256x1024_o0_896_S128x128) w b := rfl

theorem store8 : k0_pay18 U V w b
    = tile (extractStridedSlice S128x128 ![128, 0] U slices_S256x1024_o128_0_S128x128)
        (extractStridedSlice S128x128 ![128, 0] V slices_S256x1024_o128_0_S128x128) w b := rfl

theorem store9 : k0_pay19 U V w b
    = tile (extractStridedSlice S128x128 ![128, 128] U slices_S256x1024_o128_128_S128x128)
        (extractStridedSlice S128x128 ![128, 128] V slices_S256x1024_o128_128_S128x128) w b := rfl

theorem store10 : k0_pay20 U V w b
    = tile (extractStridedSlice S128x128 ![128, 256] U slices_S256x1024_o128_256_S128x128)
        (extractStridedSlice S128x128 ![128, 256] V slices_S256x1024_o128_256_S128x128) w b := rfl

theorem store11 : k0_pay22 (k0_pay21 U V w b)
    = tile (extractStridedSlice S128x128 ![128, 384] U slices_S256x1024_o128_384_S128x128)
        (extractStridedSlice S128x128 ![128, 384] V slices_S256x1024_o128_384_S128x128) w b := rfl

theorem store12 : k0_pay23 U V w b
    = tile (extractStridedSlice S128x128 ![128, 512] U slices_S256x1024_o128_512_S128x128)
        (extractStridedSlice S128x128 ![128, 512] V slices_S256x1024_o128_512_S128x128) w b := rfl

theorem store13 : k0_pay24 U V w b
    = tile (extractStridedSlice S128x128 ![128, 640] U slices_S256x1024_o128_640_S128x128)
        (extractStridedSlice S128x128 ![128, 640] V slices_S256x1024_o128_640_S128x128) w b := rfl

theorem store14 : k0_pay26 U (k0_pay25 V w) b
    = tile (extractStridedSlice S128x128 ![128, 768] U slices_S256x1024_o128_768_S128x128)
        (extractStridedSlice S128x128 ![128, 768] V slices_S256x1024_o128_768_S128x128) w b := rfl

theorem store15 : k0_pay27 U V w b
    = tile (extractStridedSlice S128x128 ![128, 896] U slices_S256x1024_o128_896_S128x128)
        (extractStridedSlice S128x128 ![128, 896] V slices_S256x1024_o128_896_S128x128) w b := rfl

end Stores

/-! ## The rows of a block of 256 tokens -/

section Rows

variable (x0 : FVec Ideal S1x256x1024 .f32) (x1 : FVec Ideal S1x1024 .f32) (x2 x3 x4 : FVec Ideal S1x1x1024 .f32)
  (x5 : FVec Ideal S1024x2048 .bf16) (x6 : FVec Ideal S1x1024 .f32) (x7 : FVec Ideal S8x128x128 .bf16)
  (x8 : FVec Ideal S128x8 .f32) (x9 : FVec Ideal S1024x1024 .bf16)

/-- The activated columns of row `r` of the block. -/
def row (r : Fin 256) (f : Fin 2048) : EReal :=
  act (fun d => x0 (ix3 0 r d)) (fun d => x1 (ix2 0 d)) (fun d => x2 (ix3 0 0 d)) (fun d => x3 (ix3 0 0 d))
    (fun d f => x5 (ix2 d f)) f

abbrev pre : FVec Ideal S256x2048 .f32 := k0_pay2 (F := Ideal) x0 x1 x2 x3 x5
abbrev th : FVec Ideal S256x2048 .f32 := k0_pay3 (F := Ideal) x0 x1 x2 x3 x5

theorem row_apply (r : Fin 256) (f : Fin 2048) :
    (k0_pay4 (F := Ideal) (pre x0 x1 x2 x3 x5) (th x0 x1 x2 x3 x5) : FVec Ideal S256x2048 .f32) (ix2 r f)
      = row x0 x1 x2 x3 x5 r f := by
  pointwise [row, k0_pay4, k0_pay2, k0_pay3, k0_pay1, act, gelu, hid, nrm]

theorem u_apply (r : Fin 256) (c : Fin 1024) :
    (k0_pay5 (F := Ideal) (pre x0 x1 x2 x3 x5) (th x0 x1 x2 x3 x5) : FVec Ideal S256x1024 .f32) (ix2 r c)
      = row x0 x1 x2 x3 x5 r (lo c) := by
  rw [← row_apply]
  pointwise [k0_pay5, lo]

theorem v_apply (r : Fin 256) (c : Fin 1024) :
    (k0_pay6 (F := Ideal) (pre x0 x1 x2 x3 x5) (th x0 x1 x2 x3 x5) x6 : FVec Ideal S256x1024 .bf16) (ix2 r c)
      = nrm (fun e => row x0 x1 x2 x3 x5 r (hi e)) (fun e => x6 (ix2 0 e)) c := by
  simp only [← row_apply, nrm]
  pointwise [k0_pay6, hi]

/-- The gated column `c` of row `r` of the block. -/
def uv (r : Fin 256) (c : Fin 1024) : EReal :=
  mix (fun q f => row x0 x1 x2 x3 x5 (chunk (n := 2) r q) f) (fun e => x6 (ix2 0 e)) (fun g p q => x7 (ix3 g p q))
    (fun g p => x8 (ix2 p g)) (inChunk (n := 2) r) c

/-- One stored tile holds its part of the gated columns. -/
theorem piece (k : Fin 2) (g : Fin 8) (y : S256x1024.Idx) (x : S128x128.Idx) (h0 : (y 0 : ℕ) = 128 * k + x 0)
    (h1 : (y 1 : ℕ) = 128 * g + x 1) (u : FVec Ideal S128x128 .f32) (v : FVec Ideal S128x128 .bf16)
    (w : FVec Ideal S1x128x128 .bf16) (b : FVec Ideal S128x1 .f32)
    (hu : ∀ p e : Fin 128, u (ix2 p e)
      = (k0_pay5 (F := Ideal) (pre x0 x1 x2 x3 x5) (th x0 x1 x2 x3 x5) : FVec Ideal S256x1024 .f32)
          (ix2 ⟨128 * (k : ℕ) + p, by omega⟩ ⟨128 * (g : ℕ) + e, by omega⟩))
    (hv : ∀ p e : Fin 128, v (ix2 p e)
      = (k0_pay6 (F := Ideal) (pre x0 x1 x2 x3 x5) (th x0 x1 x2 x3 x5) x6 : FVec Ideal S256x1024 .bf16)
          (ix2 ⟨128 * (k : ℕ) + p, by omega⟩ ⟨128 * (g : ℕ) + e, by omega⟩))
    (hw : ∀ p q : Fin 128, w (ix3 0 p q) = x7 (ix3 g p q)) (hb : ∀ p : Fin 128, b (ix2 p 0) = x8 (ix2 p g)) :
    tile u v w b x = uv x0 x1 x2 x3 x5 x6 x7 x8 (y 0) (y 1) := by
  have hx0 : ((x 0 : Fin 128) : ℕ) < 128 := (x 0 : Fin 128).isLt
  have hx1 : ((x 1 : Fin 128) : ℕ) < 128 := (x 1 : Fin 128).isLt
  obtain ⟨r, c, rfl⟩ : ∃ (r : Fin 256) (c : Fin 1024), y = ix2 r c := ⟨y 0, y 1, eq_ix2 y⟩
  obtain ⟨p, e, rfl⟩ : ∃ (p : Fin 128) (e : Fin 128), x = ix2 p e := ⟨x 0, x 1, eq_ix2 x⟩
  replace h0 : (r : ℕ) = 128 * k + p := h0
  replace h1 : (c : ℕ) = 128 * g + e := h1
  have hr : (⟨128 * (k : ℕ) + p, by omega⟩ : Fin 256) = r := Fin.ext h0.symm
  have hc : (⟨128 * (g : ℕ) + e, by omega⟩ : Fin 1024) = c := Fin.ext h1.symm
  have hq : ∀ q : Fin 128, (⟨128 * (k : ℕ) + q, by omega⟩ : Fin 256) = chunk (n := 2) r q := fun q =>
    Fin.ext (by show 128 * (k : ℕ) + q = (r : ℕ) / 128 * 128 + q; omega)
  have hp : inChunk (n := 2) r = p := Fin.ext (by show (r : ℕ) % 128 = p; omega)
  have hg : grp c = g := Fin.ext (by show (c : ℕ) / 128 = g; omega)
  rw [tile_apply, hu, hb]
  simp only [hv, hw, u_apply, v_apply, hc, hq]
  show _ = uv x0 x1 x2 x3 x5 x6 x7 x8 r c
  unfold uv mix
  rw [hp, hg]

/-- What the body stores, given the gated columns. -/
theorem store_apply (T : FVec Ideal S256x1024 .bf16)
    (hT : ∀ y : S256x1024.Idx, T y = uv x0 x1 x2 x3 x5 x6 x7 x8 (y 0) (y 1)) (z : Fin 1) (r : Fin 256) (o : Fin 1024) :
    (k0_pay28 (F := Ideal) (k0_pay1 (F := Ideal) x0) x4 T x9 : FVec Ideal S1x256x1024 .f32) (ix3 z r o)
      = res (fun q f => row x0 x1 x2 x3 x5 (chunk (n := 2) r q) f) (fun e => x6 (ix2 0 e)) (fun g p q => x7 (ix3 g p q))
          (fun g p => x8 (ix2 p g)) (fun c o => x9 (ix2 c o)) (inChunk (n := 2) r) (x0 (ix3 0 r o)) (x4 (ix3 0 0 o)) o := by
  have hT' : ∀ (r : Fin 256) (c : Fin 1024), T (ix2 r c) = uv x0 x1 x2 x3 x5 x6 x7 x8 r c := fun r c => hT (ix2 r c)
  unfold uv at hT'
  unfold res
  simp only [← hT']
  pointwise [k0_pay28, k0_pay1]

end Rows

end Cert.SguIdeal.Hand
-- ==== Proof.Sgu.Value.lean ====
/-
The spatial gating unit's result array: the blocks its grid points write back, put together.
-/
module

public import proofs.«01_k».proof.Proof.Sgu.Tile

@[expose] public section

set_option maxRecDepth 16384

noncomputable section

namespace Cert.SguIdeal.Hand

open Idealize.ShloMosaic.Pipeline (Dat)
open Cert.SguIdeal Cert.SguIdeal.Gen Idealize.ShloMosaic Idealize.ShloMosaic.TcCoe Idealize.SL.Sem

variable (m : (ℓ : Loc nD τ sig) → Buf (Elt Ideal) ℓ)

/-- Where the grid point `t` reads and writes: batch `t / 16`, token block `t % 16`, the weights whole. -/
theorem idx : ∀ t : Fin cfg0.N, win0_0.index t = ![t.val / 16, t.val % 16, 0]
    ∧ win0_1.index t = ![0, 0] ∧ win0_2.index t = ![t.val / 16, 0, 0]
    ∧ win0_3.index t = ![t.val / 16, 0, 0] ∧ win0_4.index t = ![t.val / 16, 0, 0]
    ∧ win0_5.index t = ![0, 0] ∧ win0_6.index t = ![0, 0] ∧ win0_7.index t = ![0, 0, 0]
    ∧ win0_8.index t = ![0, 0] ∧ win0_9.index t = ![0, 0]
    ∧ win0_10.index t = ![t.val / 16, t.val % 16, 0] :=
  (by decide +kernel : ∀ t : Fin grid0.N, _)

theorem covers : (cfg0.win 10).Covers := by decide +kernel

/-- The grid point's batch, and row `r` of its token block. -/
def pb (t : Fin cfg0.N) : Fin 8 := ⟨t.val / 16, by have : t.val < 128 := lt_of_lt_of_eq t.isLt N_0; omega⟩
def ps (t : Fin cfg0.N) (r : Fin 256) : Fin 4096 := ⟨t.val % 16 * 256 + r, by omega⟩

abbrev aX (c : Dev nD) : FVec Ideal S8x4096x1024 .f32 := m ((c : Thread nD τ).loc main_arg0)
abbrev aNW (c : Dev nD) : FVec Ideal S1024 .f32 := m ((c : Thread nD τ).loc main_arg1)
abbrev aSh (c : Dev nD) : FVec Ideal S8x1024 .f32 := m ((c : Thread nD τ).loc main_arg2)
abbrev aSc (c : Dev nD) : FVec Ideal S8x1024 .f32 := m ((c : Thread nD τ).loc main_arg3)
abbrev aGa (c : Dev nD) : FVec Ideal S8x1024 .f32 := m ((c : Thread nD τ).loc main_arg4)
abbrev aA (c : Dev nD) : FVec Ideal S1024x2048 .f32 := m ((c : Thread nD τ).loc main_arg5)
abbrev aGW (c : Dev nD) : FVec Ideal S1024 .f32 := m ((c : Thread nD τ).loc main_arg6)
abbrev aWS (c : Dev nD) : FVec Ideal S8x128x128 .f32 := m ((c : Thread nD τ).loc main_arg7)
abbrev aBS (c : Dev nD) : FVec Ideal S8x128 .f32 := m ((c : Thread nD τ).loc main_arg8)
abbrev aB (c : Dev nD) : FVec Ideal S1024x1024 .f32 := m ((c : Thread nD τ).loc main_arg9)

section Blocks

variable (c : Dev nD) (t : Fin cfg0.N)

theorem blk0 (r : Fin 256) (d : Fin 1024) :
    (show FVec Ideal S1x256x1024 .f32 from iblk m c 0 t) (ix3 0 r d) = aX m c (ix3 (pb t) (ps t r) d) := by
  blk_ext [iblk, V, idx t, pb, ps, aX]

theorem blk1 (d : Fin 1024) :
    (show FVec Ideal S1x1024 .f32 from iblk m c 1 t) (ix2 0 d) = aNW m c (ix1 d) := by
  blk_simp [iblk]
  entry_read
  pointwise
  blk_ext [idx t, pb, aNW]

theorem blk2 (d : Fin 1024) :
    (show FVec Ideal S1x1x1024 .f32 from iblk m c 2 t) (ix3 0 0 d) = aSh m c (ix2 (pb t) d) := by
  blk_simp [iblk]
  entry_read
  pointwise
  blk_ext [idx t, pb, aSh]

theorem blk3 (d : Fin 1024) :
    (show FVec Ideal S1x1x1024 .f32 from iblk m c 3 t) (ix3 0 0 d) = aSc m c (ix2 (pb t) d) := by
  blk_simp [iblk]
  entry_read
  pointwise
  blk_ext [idx t, pb, aSc]

theorem blk4 (d : Fin 1024) :
    (show FVec Ideal S1x1x1024 .f32 from iblk m c 4 t) (ix3 0 0 d) = aGa m c (ix2 (pb t) d) := by
  blk_simp [iblk]
  entry_read
  pointwise
  blk_ext [idx t, pb, aGa]

theorem blk5 (d : Fin 1024) (f : Fin 2048) :
    (show FVec Ideal S1024x2048 .bf16 from iblk m c 5 t) (ix2 d f) = aA m c (ix2 d f) := by
  blk_simp [iblk]
  entry_read
  pointwise
  blk_ext [idx t, pb, aA]

theorem blk6 (d : Fin 1024) :
    (show FVec Ideal S1x1024 .f32 from iblk m c 6 t) (ix2 0 d) = aGW m c (ix1 d) := by
  blk_simp [iblk]
  entry_read
  pointwise
  blk_ext [idx t, pb, aGW]

theorem blk7 (g : Fin 8) (p q : Fin 128) :
    (show FVec Ideal S8x128x128 .bf16 from iblk m c 7 t) (ix3 g p q) = aWS m c (ix3 g p q) := by
  blk_simp [iblk]
  entry_read
  pointwise
  blk_ext [idx t, pb, aWS]

theorem blk8 (p : Fin 128) (g : Fin 8) :
    (show FVec Ideal S128x8 .f32 from iblk m c 8 t) (ix2 p g) = aBS m c (ix2 g p) := by
  blk_simp [iblk]
  entry_read
  pointwise
  blk_ext [idx t, pb, aBS]

theorem blk9 (d o : Fin 1024) :
    (show FVec Ideal S1024x1024 .bf16 from iblk m c 9 t) (ix2 d o) = aB m c (ix2 d o) := by
  blk_simp [iblk]
  entry_read
  pointwise
  blk_ext [idx t, pb, aB]

end Blocks

theorem final (c : Dev nD) : (dats m 0 c).arrAt 10 (cfgs 0).N
    = G (aX m c) (aNW m c) (aSh m c) (aSc m c) (aGa m c) (aA m c) (aGW m c) (aWS m c) (aBS m c) (aB m c) := by
  refine (dats m 0 c).arrAt_eq_of_covers 10 _ covers fun t _ y => ?_
  blk_simp
  rw [after0_10]
  unfold Gen.outsAt0
  frame_out
  obtain ⟨z, r, o, rfl⟩ : ∃ (z : Fin 1) (r : Fin 256) (o : Fin 1024), y = ix3 z r o := ⟨y 0, y 1, y 2, eq_ix3 y⟩
  refine (store_apply (iblk m c 0 t) (iblk m c 1 t) (iblk m c 2 t) (iblk m c 3 t) (iblk m c 4 t) (iblk m c 5 t)
    (iblk m c 6 t) (iblk m c 7 t) (iblk m c 8 t) (iblk m c 9 t) _ ?_ z r o).trans ?_
  · intro y
    rw [View.readCov_eq_canon']
    refine (congrArg (View.canon _) (?_ : _ = y)).trans ?_
    · funext a
      match a with
      | 0 => exact Fin.ext (by show 0 + 1 * (y 0 : ℕ) = _; omega)
      | 1 => exact Fin.ext (by show 0 + 1 * (y 1 : ℕ) = _; omega)
    canon_tiles y h
    case piece0 =>
      refine (congrFun (store15 _ _ _ _) _).trans (piece _ _ _ _ _ _ _ _ 1 7 _ _ ?_ ?_ _ _ _ _ ?_ ?_ ?_ ?_)
      · exact h0
      · exact h1
      · intro p e; pointwise
      · intro p e; pointwise
      · intro p q; pointwise
      · intro p; pointwise
    case piece1 =>
      refine (congrFun (store14 _ _ _ _) _).trans (piece _ _ _ _ _ _ _ _ 1 6 _ _ ?_ ?_ _ _ _ _ ?_ ?_ ?_ ?_)
      · exact h0
      · exact h1
      · intro p e; pointwise
      · intro p e; pointwise
      · intro p q; pointwise
      · intro p; pointwise
    case piece2 =>
      refine (congrFun (store13 _ _ _ _) _).trans (piece _ _ _ _ _ _ _ _ 1 5 _ _ ?_ ?_ _ _ _ _ ?_ ?_ ?_ ?_)
      · exact h0
      · exact h1
      · intro p e; pointwise
      · intro p e; pointwise
      · intro p q; pointwise
      · intro p; pointwise
    case piece3 =>
      refine (congrFun (store12 _ _ _ _) _).trans (piece _ _ _ _ _ _ _ _ 1 4 _ _ ?_ ?_ _ _ _ _ ?_ ?_ ?_ ?_)
      · exact h0
      · exact h1
      · intro p e; pointwise
      · intro p e; pointwise
      · intro p q; pointwise
      · intro p; pointwise
    case piece4 =>
      refine (congrFun (store11 _ _ _ _) _).trans (piece _ _ _ _ _ _ _ _ 1 3 _ _ ?_ ?_ _ _ _ _ ?_ ?_ ?_ ?_)
      · exact h0
      · exact h1
      · intro p e; pointwise
      · intro p e; pointwise
      · intro p q; pointwise
      · intro p; pointwise
    case piece5 =>
      refine (congrFun (store10 _ _ _ _) _).trans (piece _ _ _ _ _ _ _ _ 1 2 _ _ ?_ ?_ _ _ _ _ ?_ ?_ ?_ ?_)
      · exact h0
      · exact h1
      · intro p e; pointwise
      · intro p e; pointwise
      · intro p q; pointwise
      · intro p; pointwise
    case piece6 =>
      refine (congrFun (store9 _ _ _ _) _).trans (piece _ _ _ _ _ _ _ _ 1 1 _ _ ?_ ?_ _ _ _ _ ?_ ?_ ?_ ?_)
      · exact h0
      · exact h1
      · intro p e; pointwise
      · intro p e; pointwise
      · intro p q; pointwise
      · intro p; pointwise
    case piece7 =>
      refine (congrFun (store8 _ _ _ _) _).trans (piece _ _ _ _ _ _ _ _ 1 0 _ _ ?_ ?_ _ _ _ _ ?_ ?_ ?_ ?_)
      · exact h0
      · exact h1.trans (Nat.zero_add _).symm
      · intro p e; pointwise
      · intro p e; pointwise
      · intro p q; pointwise
      · intro p; pointwise
    case piece8 =>
      refine (congrFun (store7 _ _ _ _) _).trans (piece _ _ _ _ _ _ _ _ 0 7 _ _ ?_ ?_ _ _ _ _ ?_ ?_ ?_ ?_)
      · exact h0.trans (Nat.zero_add _).symm
      · exact h1
      · intro p e; pointwise
      · intro p e; pointwise
      · intro p q; pointwise
      · intro p; pointwise
    case piece9 =>
      refine (congrFun (store6 _ _ _ _) _).trans (piece _ _ _ _ _ _ _ _ 0 6 _ _ ?_ ?_ _ _ _ _ ?_ ?_ ?_ ?_)
      · exact h0.trans (Nat.zero_add _).symm
      · exact h1
      · intro p e; pointwise
      · intro p e; pointwise
      · intro p q; pointwise
      · intro p; pointwise
    case piece10 =>
      refine (congrFun (store5 _ _ _ _) _).trans (piece _ _ _ _ _ _ _ _ 0 5 _ _ ?_ ?_ _ _ _ _ ?_ ?_ ?_ ?_)
      · exact h0.trans (Nat.zero_add _).symm
      · exact h1
      · intro p e; pointwise
      · intro p e; pointwise
      · intro p q; pointwise
      · intro p; pointwise
    case piece11 =>
      refine (congrFun (store4 _ _ _ _) _).trans (piece _ _ _ _ _ _ _ _ 0 4 _ _ ?_ ?_ _ _ _ _ ?_ ?_ ?_ ?_)
      · exact h0.trans (Nat.zero_add _).symm
      · exact h1
      · intro p e; pointwise
      · intro p e; pointwise
      · intro p q; pointwise
      · intro p; pointwise
    case piece12 =>
      refine (congrFun (store3 _ _ _ _) _).trans (piece _ _ _ _ _ _ _ _ 0 3 _ _ ?_ ?_ _ _ _ _ ?_ ?_ ?_ ?_)
      · exact h0.trans (Nat.zero_add _).symm
      · exact h1
      · intro p e; pointwise
      · intro p e; pointwise
      · intro p q; pointwise
      · intro p; pointwise
    case piece13 =>
      refine (congrFun (store2 _ _ _ _) _).trans (piece _ _ _ _ _ _ _ _ 0 2 _ _ ?_ ?_ _ _ _ _ ?_ ?_ ?_ ?_)
      · exact h0.trans (Nat.zero_add _).symm
      · exact h1
      · intro p e; pointwise
      · intro p e; pointwise
      · intro p q; pointwise
      · intro p; pointwise
    case piece14 =>
      refine (congrFun (store1 _ _ _ _ _ _) _).trans (piece _ _ _ _ _ _ _ _ 0 1 _ _ ?_ ?_ _ _ _ _ ?_ ?_ ?_ ?_)
      · exact h0.trans (Nat.zero_add _).symm
      · exact h1
      · intro p e; pointwise
      · intro p e; pointwise
      · intro p q; pointwise
      · intro p; pointwise
    case piece15 =>
      refine (congrFun (store0 _ _ _ _ _) _).trans (piece _ _ _ _ _ _ _ _ 0 0 _ _ ?_ ?_ _ _ _ _ ?_ ?_ ?_ ?_)
      · exact h0.trans (Nat.zero_add _).symm
      · exact h1.trans (Nat.zero_add _).symm
      · intro p e; pointwise
      · intro p e; pointwise
      · intro p q; pointwise
      · intro p; pointwise
  · have ht : t.val < 128 := lt_of_lt_of_eq t.isLt N_0
    have hz : (z : ℕ) < 1 := z.isLt
    have e : ((View.whole main_v9).slice (win0_10.rect t)).emb (ix3 z r o) = ix3 (pb t) (ps t r) o := by
      funext a
      match a with
      | 0 => exact Fin.ext (by blk_simp [idx t, pb])
      | 1 => exact Fin.ext (by blk_simp [idx t, ps])
      | 2 => exact Fin.ext (by blk_simp [idx t])
    rw [e]
    refine res_congr (fun q f => act_congr (fun d => (blk0 m c t _ d).trans ?_) (blk1 m c t) (blk2 m c t) (blk3 m c t)
      (blk5 m c t) f) (blk6 m c t) (blk7 m c t) (fun g p => blk8 m c t p g) (blk9 m c t) ?_ (blk0 m c t r o)
      (blk4 m c t o) o
    · refine congrArg _ (congrArg (fun s => ix3 (pb t) s d) (Fin.ext ?_))
      show t.val % 16 * 256 + ((r : ℕ) / 128 * 128 + q) = (t.val % 16 * 256 + r) / 128 * 128 + q
      omega
    · refine Fin.ext ?_
      show (r : ℕ) % 128 = (t.val % 16 * 256 + r) % 128
      omega

end Cert.SguIdeal.Hand
-- ==== Proof.Sgu.Ref.lean ====
/-
The reference spatial gating unit's result from scalars: the same formula the kernel is shown to store.
-/
module

public import proofs.«01_k».proof.Proof.Gen.SguRefIdeal.Read
public import proofs.«01_k».proof.Proof.Sgu.Spec

@[expose] public section

set_option maxRecDepth 16384

noncomputable section

namespace Cert.SguRefIdeal.Hand

open Cert.SguRefIdeal Cert.SguRefIdeal.Gen Cert.SguRefIdeal.Read Idealize.ShloMosaic Idealize.ShloMosaic.TcCoe Idealize.SL.Sem
open Cert.SguIdeal.Hand

variable (x0 : FVec Ideal S8x4096x1024 .f32) (x1 : FVec Ideal S1024 .f32) (x2 x3 x4 : FVec Ideal S8x1024 .f32)
  (x5 : FVec Ideal S1024x2048 .f32) (x6 : FVec Ideal S1024 .f32) (x7 : FVec Ideal S8x128x128 .f32)
  (x8 : FVec Ideal S8x128 .f32) (x9 : FVec Ideal S1024x1024 .f32)

/-- The activated columns of token `s` of batch `b`. -/
def Z (b : Fin 8) (s : Fin 4096) (f : Fin 2048) : EReal :=
  act (fun d => x0 (ix3 b s d)) (fun d => x1 (ix1 d)) (fun d => x2 (ix2 b d)) (fun d => x3 (ix2 b d))
    (fun d f => x5 (ix2 d f)) f

theorem v12_at (b : Fin 8) (s : Fin 4096) (d : Fin 1024) :
    val_main_v12 (F := Ideal) x0 x1 (ix3 b s d) = nrm (fun d => x0 (ix3 b s d)) (fun d => x1 (ix1 d)) d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

theorem v20_at (b : Fin 8) (s : Fin 4096) (d : Fin 1024) :
    val_main_v20 (F := Ideal) x0 x1 x2 x3 (ix3 b s d)
      = hid (fun d => x0 (ix3 b s d)) (fun d => x1 (ix1 d)) (fun d => x2 (ix2 b d)) (fun d => x3 (ix2 b d)) d := by
  pointwise [val_main_v20, val_main_v19, val_main_v18, val_main_v17, val_main_v16, val_main_v15, val_main_v14,
    val_main_cst_2, val_main_v13, v12_at, hid]

theorem v21_at (b : Fin 8) (s : Fin 4096) (f : Fin 2048) :
    val_main_v21 (F := Ideal) x0 x1 x2 x3 x5 (ix3 b s f)
      = ∑ d, hid (fun d => x0 (ix3 b s d)) (fun d => x1 (ix1 d)) (fun d => x2 (ix2 b d)) (fun d => x3 (ix2 b d)) d
          * x5 (ix2 d f) := by
  pointwise [val_main_v21, v20_at]

theorem v34_at (b : Fin 8) (s : Fin 4096) (f : Fin 2048) :
    val_main_v34 (F := Ideal) x0 x1 x2 x3 x5 (ix3 b s f) = Z x0 x1 x2 x3 x5 b s f := by
  pointwise [val_main_v34, val_main_v33, val_main_v32, val_main_v31, val_main_v30, val_main_v29, val_main_v28,
    val_main_v27, val_main_v26, val_main_v25, val_main_v24, val_main_v23, val_main_v22, val_main_cst_3, val_main_cst_4,
    val_main_cst_5, val_main_cst_6, v21_at]
  unfold Z act gelu
  rw [mul_assoc]

theorem v49_at (b : Fin 8) (s : Fin 4096) (c : Fin 1024) :
    val_main_v49 (F := Ideal) x0 x1 x2 x3 x5 x6 (ix3 b s c)
      = nrm (fun e => Z x0 x1 x2 x3 x5 b s (hi e)) (fun d => x6 (ix1 d)) c := by
  pointwise [val_main_v49, val_main_v48, val_main_v47, val_main_v46, val_main_v45, val_main_v44, val_main_v43,
    val_main_v42, val_main_v41, val_main_v40, val_main_v39, val_main_v38, val_main_v37, val_main_v36, val_main_cst_7,
    val_main_cst_8, val_main_cst_9, v34_at, nrm, hi]

theorem v50_at (b : Fin 8) (n : Fin 32) (q : Fin 128) (g : Fin 8) (c : Fin 128) :
    val_main_v50 (F := Ideal) x0 x1 x2 x3 x5 x6 (ix5 b n q g c)
      = nrm (fun e => Z x0 x1 x2 x3 x5 b ⟨(n : ℕ) * 128 + q, by omega⟩ (hi e)) (fun d => x6 (ix1 d))
          ⟨(g : ℕ) * 128 + c, by omega⟩ := by
  pointwise [val_main_v50, v49_at]

theorem v57_at (b : Fin 8) (n : Fin 32) (p : Fin 128) (g : Fin 8) (c : Fin 128) :
    val_main_v57 (F := Ideal) x0 x1 x2 x3 x5 x6 x7 x8 (ix5 b n p g c)
      = (∑ q : Fin 128, x7 (ix3 g p q)
          * nrm (fun e => Z x0 x1 x2 x3 x5 b ⟨(n : ℕ) * 128 + q, by omega⟩ (hi e)) (fun d => x6 (ix1 d))
              ⟨(g : ℕ) * 128 + c, by omega⟩) + x8 (ix2 g p) := by
  pointwise [val_main_v57, val_main_v56, val_main_v55, val_main_v54, val_main_v53, val_main_v52, val_main_v51, v50_at]
  exact congrArg (· + _) (Finset.sum_congr rfl fun q _ => mul_comm _ _)

theorem v59_at (b : Fin 8) (s : Fin 4096) (c : Fin 1024) :
    val_main_v59 (F := Ideal) x0 x1 x2 x3 x5 x6 x7 x8 (ix3 b s c)
      = mix (fun q => Z x0 x1 x2 x3 x5 b (chunk (n := 32) s q)) (fun e => x6 (ix1 e)) (fun g p q => x7 (ix3 g p q))
          (fun g p => x8 (ix2 g p)) (inChunk (n := 32) s) c := by
  pointwise [val_main_v59, val_main_v58, val_main_v35, v57_at, v34_at]
  have hc : (⟨(c : ℕ) / 128 * 128 + (c : ℕ) % 128, by omega⟩ : Fin 1024) = c :=
    Fin.ext (by show (c : ℕ) / 128 * 128 + (c : ℕ) % 128 = c; omega)
  rw [hc]
  have hs : chunk (n := 32) s (inChunk (n := 32) s) = s :=
    Fin.ext (by show (s : ℕ) / 128 * 128 + (s : ℕ) % 128 = s; omega)
  refine congrArg (· * _) (congrFun (congrArg (Z x0 x1 x2 x3 x5 b) ?_) _)
  exact hs.symm

theorem value : val_main_v64 (F := Ideal) x0 x1 x2 x3 x4 x5 x6 x7 x8 x9 = G x0 x1 x2 x3 x4 x5 x6 x7 x8 x9 := by
  funext i
  idx_vars i
  pointwise [val_main_v64, val_main_v63, val_main_v62, val_main_v61, val_main_v60, v59_at]
  rfl

end Cert.SguRefIdeal.Hand
-- ==== Proof.Sgu.Claims.lean ====
/-
The claims of the spatial gating unit, in the order in which the certificate states them.
-/
module

public import proofs.«01_k».proof.Defs
public import proofs.«01_k».proof.Proof.Gen.Sgu.Frame
public import proofs.«01_k».proof.Proof.Sgu.Value
public import proofs.«01_k».proof.Proof.Sgu.Ref
public import Idealize.ShloMosaic.Lib.Claim

@[expose] public section

set_option maxRecDepth 16384

noncomputable section

namespace Cert.SguClaims

open Idealize.ShloMosaic Idealize.ShloMosaic.TcCoe Idealize.SL.Sem

/-- The unit's kernel stops without fault and leaves its arguments and the counters as they were. -/
theorem frame_p : Cert.quiescent_Sgu := fun m ρ _ => Cert.Sgu.Gen.frame m ρ

/-- The same of the kernel over the extended reals. -/
theorem frame_pi : Cert.quiescent_SguIdeal := fun m ρ _ => Cert.SguIdeal.Gen.frame m ρ

/-- The same of the reference over the extended reals. -/
theorem frame_ri : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

/-- Kernel and reference leave the same array: both leave the formula `G` of their arguments. -/
theorem algebraic : Cert.algebraic_SguIdeal_SguRefIdeal := by
  pair_intro
  · run_from Cert.SguIdeal.Gen.run_main m g
  · run_from Cert.SguRefIdeal.Value.run m' g'
    obtain ⟨h0, h1, h2, h3, h4, h5, h6, h7, h8, h9⟩ := hagree c
    rw [Cert.SguRefIdeal.Read.val_main_v64_eq, h0, h1, h2, h3, h4, h5, h6, h7, h8, h9]
    exact ((Cert.SguRefIdeal.Hand.value _ _ _ _ _ _ _ _ _ _).trans (Cert.SguIdeal.Hand.final m c).symm)

end Cert.SguClaims
-- ==== Proof.AbOut.Value.lean ====
/-
The output projection: what one block stores, and the result array put together from the blocks.
-/
module

public import proofs.«01_k».proof.Proof.Gen.AbOutIdeal.Frame
public import Idealize.ShloMosaic.Lib.Pointwise
public import Idealize.ShloMosaic.Lib.Pipeline.ValueKit

@[expose] public section

set_option maxRecDepth 16384

noncomputable section

namespace Cert.AbOutIdeal.Hand

open Idealize.ShloMosaic.Pipeline (Dat)
open Cert.AbOutIdeal Cert.AbOutIdeal.Gen Idealize.ShloMosaic Idealize.ShloMosaic.TcCoe Idealize.SL.Sem

/-- The rows of the projection that the attention's columns meet, and those of the Fourier columns. -/
def lo (j : Fin 512) : Fin 1024 := ⟨j, by omega⟩
def hi (j : Fin 512) : Fin 1024 := ⟨512 + (j : ℕ), by omega⟩

/-- The residual and the gated projection of both head groups. -/
def G (A Y : FVec Ideal S8x4096x512 .bf16) (W : FVec Ideal S1024x1024 .f32) (X : FVec Ideal S8x4096x1024 .f32)
    (Ga : FVec Ideal S8x1024 .f32) : FVec Ideal S8x4096x1024 .f32 := fun i =>
  (X i : EReal) + Ga (ix2 (i 0) (i 2))
    * ((∑ j, A (ix3 (i 0) (i 1) j) * W (ix2 (lo j) (i 2))) + ∑ j, Y (ix3 (i 0) (i 1) j) * W (ix2 (hi j) (i 2)))

/-- What the body stores, from the blocks it loads. -/
theorem store_apply (a y : FVec Ideal S1x512x512 .bf16) (w v : FVec Ideal S512x1024 .bf16)
    (x : FVec Ideal S1x512x1024 .f32) (g : FVec Ideal S1x1x1024 .f32) (z : Fin 1) (r : Fin 512) (o : Fin 1024) :
    (k0_pay1 (F := Ideal) a w y v x g : FVec Ideal S1x512x1024 .f32) (ix3 z r o)
      = ((x (ix3 0 r o) : EReal) + g (ix3 0 0 o)
          * ((∑ j, a (ix3 0 r j) * w (ix2 j o)) + ∑ j, y (ix3 0 r j) * v (ix2 j o)) : EReal) := by
  pointwise [k0_pay1]

variable (m : (ℓ : Loc nD τ sig) → Buf (Elt Ideal) ℓ)

/-- Where the grid point `t` reads and writes: batch `t / 8`, token block `t % 8`, the weights whole. -/
theorem idx : ∀ t : Fin cfg0.N, win0_0.index t = ![t.val / 8, t.val % 8, 0]
    ∧ win0_1.index t = ![t.val / 8, t.val % 8, 0] ∧ win0_2.index t = ![0, 0] ∧ win0_3.index t = ![0, 0]
    ∧ win0_4.index t = ![t.val / 8, t.val % 8, 0] ∧ win0_5.index t = ![t.val / 8, 0, 0]
    ∧ win0_6.index t = ![t.val / 8, t.val % 8, 0] :=
  (by decide +kernel : ∀ t : Fin grid0.N, _)

theorem covers : (cfg0.win 6).Covers := by decide +kernel

/-- The grid point's batch, and row `r` of its token block. -/
def pb (t : Fin cfg0.N) : Fin 8 := ⟨t.val / 8, by have : t.val < 64 := lt_of_lt_of_eq t.isLt N_0; omega⟩
def ps (t : Fin cfg0.N) (r : Fin 512) : Fin 4096 := ⟨t.val % 8 * 512 + r, by omega⟩

abbrev aA (c : Dev nD) : FVec Ideal S8x4096x512 .bf16 := m ((c : Thread nD τ).loc main_arg0)
abbrev aY (c : Dev nD) : FVec Ideal S8x4096x512 .bf16 := m ((c : Thread nD τ).loc main_arg1)
abbrev aW (c : Dev nD) : FVec Ideal S1024x1024 .f32 := m ((c : Thread nD τ).loc main_arg2)
abbrev aX (c : Dev nD) : FVec Ideal S8x4096x1024 .f32 := m ((c : Thread nD τ).loc main_arg3)
abbrev aGa (c : Dev nD) : FVec Ideal S8x1024 .f32 := m ((c : Thread nD τ).loc main_arg4)

section Blocks

variable (c : Dev nD) (t : Fin cfg0.N)

theorem blk0 (r j : Fin 512) :
    (show FVec Ideal S1x512x512 .bf16 from iblk m c 0 t) (ix3 0 r j) = aA m c (ix3 (pb t) (ps t r) j) := by
  blk_ext [iblk, V, idx t, pb, ps, aA]

theorem blk1 (r j : Fin 512) :
    (show FVec Ideal S1x512x512 .bf16 from iblk m c 1 t) (ix3 0 r j) = aY m c (ix3 (pb t) (ps t r) j) := by
  blk_ext [iblk, V, idx t, pb, ps, aY]

theorem blk2 (j : Fin 512) (o : Fin 1024) :
    (show FVec Ideal S512x1024 .bf16 from iblk m c 2 t) (ix2 j o) = aW m c (ix2 (lo j) o) := by
  blk_simp [iblk]
  entry_read
  pointwise
  blk_ext [idx t, lo, aW]

theorem blk3 (j : Fin 512) (o : Fin 1024) :
    (show FVec Ideal S512x1024 .bf16 from iblk m c 3 t) (ix2 j o) = aW m c (ix2 (hi j) o) := by
  blk_simp [iblk]
  entry_read
  pointwise
  blk_ext [idx t, hi, aW]

theorem blk4 (r : Fin 512) (o : Fin 1024) :
    (show FVec Ideal S1x512x1024 .f32 from iblk m c 4 t) (ix3 0 r o) = aX m c (ix3 (pb t) (ps t r) o) := by
  blk_ext [iblk, V, idx t, pb, ps, aX]

theorem blk5 (o : Fin 1024) :
    (show FVec Ideal S1x1x1024 .f32 from iblk m c 5 t) (ix3 0 0 o) = aGa m c (ix2 (pb t) o) := by
  blk_simp [iblk]
  entry_read
  pointwise
  blk_ext [idx t, pb, aGa]

end Blocks

theorem final (c : Dev nD) : (dats m 0 c).arrAt 6 (cfgs 0).N = G (aA m c) (aY m c) (aW m c) (aX m c) (aGa m c) := by
  refine (dats m 0 c).arrAt_eq_of_covers 6 _ covers fun t _ y => ?_
  blk_simp
  rw [after0_6]
  frame_out
  obtain ⟨z, r, o, rfl⟩ : ∃ (z : Fin 1) (r : Fin 512) (o : Fin 1024), y = ix3 z r o := ⟨y 0, y 1, y 2, eq_ix3 y⟩
  refine (store_apply (iblk m c 0 t) (iblk m c 1 t) (iblk m c 2 t) (iblk m c 3 t) (iblk m c 4 t) (iblk m c 5 t)
    z r o).trans ?_
  have hz : (z : ℕ) < 1 := z.isLt
  have e : ((View.whole main_v4).slice (win0_6.rect t)).emb (ix3 z r o) = ix3 (pb t) (ps t r) o := by
    funext a
    match a with
    | 0 => exact Fin.ext (by blk_simp [idx t, pb])
    | 1 => exact Fin.ext (by blk_simp [idx t, ps])
    | 2 => exact Fin.ext (by blk_simp [idx t])
  rw [e]
  exact congrArg₂ (· + ·) (blk4 m c t r o) (congrArg₂ (· * ·) (blk5 m c t o) (congrArg₂ (· + ·)
    (Finset.sum_congr rfl fun j _ => congrArg₂ (· * ·) (blk0 m c t r j) (blk2 m c t j o))
    (Finset.sum_congr rfl fun j _ => congrArg₂ (· * ·) (blk1 m c t r j) (blk3 m c t j o))))

end Cert.AbOutIdeal.Hand
-- ==== Proof.AbOut.Ref.lean ====
/-
The reference output projection's result: one product over both head groups, split into two.
-/
module

public import proofs.«01_k».proof.Proof.Gen.AbOutRefIdeal.Read
public import proofs.«01_k».proof.Proof.AbOut.Value

@[expose] public section

set_option maxRecDepth 16384

noncomputable section

namespace Cert.AbOutRefIdeal.Hand

open Cert.AbOutRefIdeal Cert.AbOutRefIdeal.Gen Cert.AbOutRefIdeal.Read Idealize.ShloMosaic Idealize.ShloMosaic.TcCoe Idealize.SL.Sem
open Cert.AbOutIdeal.Hand

variable (x0 x1 : FVec Ideal S8x4096x512 .bf16) (x2 : FVec Ideal S1024x1024 .f32) (x3 : FVec Ideal S8x4096x1024 .f32)
  (x4 : FVec Ideal S8x1024 .f32)

/-- The concatenated columns are the attention's, then the Fourier ones. -/
theorem v2_lo (b : Fin 8) (s : Fin 4096) (j : Fin 512) :
    val_main_v2 (F := Ideal) x0 x1 (ix3 b s (lo j)) = x0 (ix3 b s j) := by
  pointwise [val_main_v2, val_main_v1, val_main_v0, lo]

theorem v2_hi (b : Fin 8) (s : Fin 4096) (j : Fin 512) :
    val_main_v2 (F := Ideal) x0 x1 (ix3 b s (hi j)) = x1 (ix3 b s j) := by
  pointwise [val_main_v2, val_main_v1, val_main_v0, hi]

theorem v3_at (b : Fin 8) (s : Fin 4096) (o : Fin 1024) :
    val_main_v3 (F := Ideal) x0 x1 x2 (ix3 b s o)
      = ((∑ j, x0 (ix3 b s j) * x2 (ix2 (lo j) o)) + ∑ j, x1 (ix3 b s j) * x2 (ix2 (hi j) o) : EReal) := by
  have h : val_main_v3 (F := Ideal) x0 x1 x2 (ix3 b s o)
      = (∑ k : Fin 1024, val_main_v2 (F := Ideal) x0 x1 (ix3 b s k) * x2 (ix2 k o) : EReal) := by
    pointwise [val_main_v3]
  refine h.trans ((Fin.sum_univ_add (a := 512) (b := 512) _).trans ?_)
  exact congrArg₂ (· + ·) (Finset.sum_congr rfl fun j _ => congrArg (· * _) (v2_lo x0 x1 b s j))
    (Finset.sum_congr rfl fun j _ => congrArg (· * _) (v2_hi x0 x1 b s j))

theorem value : val_main_v7 (F := Ideal) x0 x1 x2 x3 x4 = G x0 x1 x2 x3 x4 := by
  funext i
  idx_vars i
  pointwise [val_main_v7, val_main_v6, val_main_v5, val_main_v4, v3_at]
  rfl

end Cert.AbOutRefIdeal.Hand
-- ==== Proof.AbOut.Claims.lean ====
/-
The claims of the output projection, in the order in which the certificate states them.
-/
module

public import proofs.«01_k».proof.Defs
public import proofs.«01_k».proof.Proof.Gen.AbOut.Frame
public import proofs.«01_k».proof.Proof.AbOut.Value
public import proofs.«01_k».proof.Proof.AbOut.Ref
public import Idealize.ShloMosaic.Lib.Claim

@[expose] public section

set_option maxRecDepth 16384

noncomputable section

namespace Cert.AbOutClaims

open Idealize.ShloMosaic Idealize.ShloMosaic.TcCoe Idealize.SL.Sem

/-- The projection's kernel stops without fault and leaves its arguments and the counters as they were. -/
theorem frame_p : Cert.quiescent_AbOut := fun m ρ _ => Cert.AbOut.Gen.frame m ρ

/-- The same of the kernel over the extended reals. -/
theorem frame_pi : Cert.quiescent_AbOutIdeal := fun m ρ _ => Cert.AbOutIdeal.Gen.frame m ρ

/-- The same of the reference over the extended reals. -/
theorem frame_ri : Cert.quiescent_AbOutRefIdeal := fun m ρ _ =>
  (θ_run Cert.AbOutRefIdeal.defs _ _).mono (fun r h => ⟨fun c => (h c).2, sem_eq_zero_of_no_sems (by decide) r.2⟩)
    (Cert.AbOutRefIdeal.Value.run (F := Ideal) m ρ)

/-- Kernel and reference leave the same array: both leave the formula `G` of their arguments. -/
theorem algebraic : Cert.algebraic_AbOutIdeal_AbOutRefIdeal := by
  pair_intro
  · run_from Cert.AbOutIdeal.Gen.run_main m g
  · run_from Cert.AbOutRefIdeal.Value.run m' g'
    rw [Cert.AbOutRefIdeal.Read.val_main_v7_eq]
    exact ((Cert.AbOutRefIdeal.Hand.value _ _ _ _ _).trans (Cert.AbOutIdeal.Hand.final m c).symm)

end Cert.AbOutClaims
-- ==== Proof.FinalNorm.Value.lean ====
/-
The final norm: what one block stores, and the array of rows put together from the blocks.
-/
module

public import proofs.«01_k».proof.Proof.Gen.FinalNormIdeal.Frame
public import proofs.«01_k».proof.Proof.Sgu.Spec

@[expose] public section

set_option maxRecDepth 16384

noncomputable section

namespace Cert.FinalNormIdeal.Hand

open Idealize.ShloMosaic.Pipeline (Dat)
open Cert.FinalNormIdeal Cert.FinalNormIdeal.Gen Idealize.ShloMosaic Idealize.ShloMosaic.TcCoe Idealize.SL.Sem
open Cert.SguIdeal.Hand (nrm)

/-- Every row divided by its root mean square, times the weight. -/
def G (X : FVec Ideal S8x4096x1024 .f32) (W : FVec Ideal S1024 .f32) : FVec Ideal S8x4096x1024 .f32 := fun i =>
  nrm (fun d => X (ix3 (i 0) (i 1) d)) (fun d => W (ix1 d)) (i 2)

/-- The batch and the token of a row of the flat array. -/
def rb (q : Fin 32768) : Fin 8 := ⟨(q : ℕ) / 4096, by omega⟩
def rs (q : Fin 32768) : Fin 4096 := ⟨(q : ℕ) % 4096, by omega⟩

/-- The same over the flat array of rows. -/
def flat (X : FVec Ideal S8x4096x1024 .f32) (W : FVec Ideal S1024 .f32) : FVec Ideal S32768x1024 .f32 := fun i =>
  nrm (fun d => X (ix3 (rb (i 0)) (rs (i 0)) d)) (fun d => W (ix1 d)) (i 1)

/-- What the body stores, from the blocks it loads. -/
theorem store_apply (x : FVec Ideal S512x1024 .f32) (w : FVec Ideal S1x1024 .f32) (r : Fin 512) (o : Fin 1024) :
    (k0_pay1 (F := Ideal) x w : FVec Ideal S512x1024 .f32) (ix2 r o)
      = nrm (fun d => x (ix2 r d)) (fun d => w (ix2 0 d)) o := by
  pointwise [k0_pay1, nrm]

variable (m : (ℓ : Loc nD τ sig) → Buf (Elt Ideal) ℓ)

/-- Where the grid point `t` reads and writes: row block `t`, the weight whole. -/
theorem idx : ∀ t : Fin cfg0.N, win0_0.index t = ![t.val, 0] ∧ win0_1.index t = ![0, 0]
    ∧ win0_2.index t = ![t.val, 0] :=
  (by decide +kernel : ∀ t : Fin grid0.N, _)

theorem covers : (cfg0.win 2).Covers := by decide +kernel

/-- Row `r` of the grid point's block. -/
def pr (t : Fin cfg0.N) (r : Fin 512) : Fin 32768 :=
  ⟨t.val * 512 + r, by have : t.val < 64 := lt_of_lt_of_eq t.isLt N_0; omega⟩

abbrev aX (c : Dev nD) : FVec Ideal S8x4096x1024 .f32 := m ((c : Thread nD τ).loc main_arg0)
abbrev aW (c : Dev nD) : FVec Ideal S1024 .f32 := m ((c : Thread nD τ).loc main_arg1)

section Blocks

variable (c : Dev nD) (t : Fin cfg0.N)

/-- What the region finds in its two inputs: the arguments, reshaped. -/
theorem entry0 : V m c main_v0 = shapeCast S32768x1024 (aX m c) shapeCasts_S8x4096x1024_S32768x1024 := by
  unfold V V0
  rw [List.flatten_singleton]
  entry_read
  rfl

theorem entry1 : V m c main_v1 = shapeCast S1x1024 (aW m c) shapeCasts_S1024_S1x1024 := by
  unfold V V0
  rw [List.flatten_singleton]
  entry_read
  rfl

theorem blk0 (r : Fin 512) (d : Fin 1024) :
    (show FVec Ideal S512x1024 .f32 from iblk m c 0 t) (ix2 r d) = aX m c (ix3 (rb (pr t r)) (rs (pr t r)) d) := by
  blk_simp [iblk]
  rw [entry0]
  pointwise
  blk_ext [idx t, pr, rb, rs, aX]

theorem blk1 (d : Fin 1024) :
    (show FVec Ideal S1x1024 .f32 from iblk m c 1 t) (ix2 0 d) = aW m c (ix1 d) := by
  blk_simp [iblk]
  rw [entry1]
  pointwise
  blk_ext [idx t, aW]

end Blocks

theorem final (c : Dev nD) : (dats m 0 c).arrAt 2 (cfgs 0).N = flat (aX m c) (aW m c) := by
  refine (dats m 0 c).arrAt_eq_of_covers 2 _ covers fun t _ y => ?_
  blk_simp
  rw [after0_2]
  frame_out
  obtain ⟨r, o, rfl⟩ : ∃ (r : Fin 512) (o : Fin 1024), y = ix2 r o := ⟨y 0, y 1, eq_ix2 y⟩
  refine (store_apply (iblk m c 0 t) (iblk m c 1 t) r o).trans ?_
  have e : ((View.whole main_v2).slice (win0_2.rect t)).emb (ix2 r o) = ix2 (pr t r) o := by
    funext a
    match a with
    | 0 => exact Fin.ext (by blk_simp [idx t, pr])
    | 1 => exact Fin.ext (by blk_simp [idx t])
  rw [e]
  exact congrArg₂ (fun f g => nrm f g o) (funext (blk0 m c t r)) (funext (blk1 m c t))

/-- The flat array of rows, with its batches apart again, is the array of normalized rows. -/
theorem unflat (X : FVec Ideal S8x4096x1024 .f32) (W : FVec Ideal S1024 .f32) :
    shapeCast S8x4096x1024 (flat X W) shapeCasts_S32768x1024_S8x4096x1024 = G X W := by
  funext i
  obtain ⟨b, s, o, rfl⟩ : ∃ (b : Fin 8) (s : Fin 4096) (o : Fin 1024), i = ix3 b s o := ⟨i 0, i 1, i 2, eq_ix3 i⟩
  have e : shapeCast S8x4096x1024 (flat X W) shapeCasts_S32768x1024_S8x4096x1024 (ix3 b s o)
      = flat X W (ix2 (⟨(b : ℕ) * 4096 + s, by omega⟩ : Fin 32768) o) := by
    pointwise
  refine e.trans ?_
  have h0 : rb ⟨(b : ℕ) * 4096 + s, by omega⟩ = b := Fin.ext (by show ((b : ℕ) * 4096 + s) / 4096 = b; omega)
  have h1 : rs ⟨(b : ℕ) * 4096 + s, by omega⟩ = s := Fin.ext (by show ((b : ℕ) * 4096 + s) % 4096 = s; omega)
  show nrm (fun d => X (ix3 (rb ⟨(b : ℕ) * 4096 + s, _⟩) (rs ⟨(b : ℕ) * 4096 + s, _⟩) d)) _ o = _
  rw [h0, h1]
  rfl

/-- What the program leaves in its result: the region's array, reshaped. -/
theorem result (c : Dev nD) :
    Pipeline.afterTail₀ cfgs (dats m) 0 (V0 m) [hostOps1] c main_v3 = G (aX m c) (aW m c) := by
  refine Eq.trans ?_ (unflat (aX m c) (aW m c))
  rw [← final m c]
  unfold Pipeline.afterTail₀
  rw [List.flatten_singleton]
  entry_read
  erw [Pipeline.withArrays_arr spec0 launch0.win.arr_inj c (V0 m c) _ 2]
  rfl

end Cert.FinalNormIdeal.Hand
-- ==== Proof.FinalNorm.Ref.lean ====
/-
The reference final norm's result: the normalized rows.
-/
module

public import proofs.«01_k».proof.Proof.Gen.FinalNormRefIdeal.Read
public import proofs.«01_k».proof.Proof.FinalNorm.Value

@[expose] public section

set_option maxRecDepth 16384

noncomputable section

namespace Cert.FinalNormRefIdeal.Hand

open Cert.FinalNormRefIdeal Cert.FinalNormRefIdeal.Gen Cert.FinalNormRefIdeal.Read Idealize.ShloMosaic Idealize.ShloMosaic.TcCoe Idealize.SL.Sem
open Cert.FinalNormIdeal.Hand
open Cert.SguIdeal.Hand (nrm)

variable (x0 : FVec Ideal S8x4096x1024 .f32) (x1 : FVec Ideal S1024 .f32)

theorem v12_at (b : Fin 8) (s : Fin 4096) (d : Fin 1024) :
    val_main_v12 (F := Ideal) x0 x1 (ix3 b s d) = nrm (fun d => x0 (ix3 b s d)) (fun d => x1 (ix1 d)) d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

theorem value : val_main_v12 (F := Ideal) x0 x1 = G x0 x1 := by
  funext i
  idx_vars i
  exact v12_at x0 x1 _ _ _

end Cert.FinalNormRefIdeal.Hand
-- ==== Proof.FinalNorm.Claims.lean ====
/-
The claims of the final norm, in the order in which the certificate states them.
-/
module

public import proofs.«01_k».proof.Defs
public import proofs.«01_k».proof.Proof.Gen.FinalNorm.Frame
public import proofs.«01_k».proof.Proof.FinalNorm.Value
public import proofs.«01_k».proof.Proof.FinalNorm.Ref
public import Idealize.ShloMosaic.Lib.Claim

@[expose] public section

set_option maxRecDepth 16384

noncomputable section

namespace Cert.FinalNormClaims

open Idealize.ShloMosaic Idealize.ShloMosaic.TcCoe Idealize.SL.Sem

/-- The norm's kernel stops without fault and leaves its arguments and the counters as they were. -/
theorem frame_p : Cert.quiescent_FinalNorm := fun m ρ _ => Cert.FinalNorm.Gen.frame m ρ

/-- The same of the kernel over the extended reals. -/
theorem frame_pi : Cert.quiescent_FinalNormIdeal := fun m ρ _ => Cert.FinalNormIdeal.Gen.frame m ρ

/-- The same of the reference over the extended reals. -/
theorem frame_ri : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- Kernel and reference leave the same array: both leave the formula `G` of their arguments. -/
theorem algebraic : Cert.algebraic_FinalNormIdeal_FinalNormRefIdeal := by
  pair_intro
  · run_from Cert.FinalNormIdeal.Gen.run_main m g
    · exact Cert.FinalNormIdeal.Gen.W_main_arg0 m (Cert.FinalNormIdeal.Gen.dats m) c
    · exact Cert.FinalNormIdeal.Gen.W_main_arg1 m (Cert.FinalNormIdeal.Gen.dats m) c
  · run_from Cert.FinalNormRefIdeal.Value.run m' g'
    rw [Cert.FinalNormRefIdeal.Read.val_main_v12_eq]
    exact ((Cert.FinalNormRefIdeal.Hand.value _ _).trans (Cert.FinalNormIdeal.Hand.result m c).symm)

end Cert.FinalNormClaims
-- ==== Proof.AbIn.Spec.lean ====
/-
The input projection from scalars: the formulas both programs are shown to compute.
-/
module

public import proofs.«01_k».proof.Proof.Gen.AbInIdeal.Frame
public import proofs.«01_k».proof.Proof.Sgu.Spec
public import Idealize.ShloMosaic.Lib.Pointwise
public import Idealize.ShloMosaic.Lib.Pipeline.ValueKit

@[expose] public section

set_option maxRecDepth 16384

noncomputable section

namespace Cert.AbInIdeal.Hand

open Cert.AbInIdeal Cert.AbInIdeal.Gen Idealize.ShloMosaic Idealize.ShloMosaic.TcCoe Idealize.SL.Sem
open Cert.SguIdeal.Hand (hid)

/-- One projected column of a token: the normalized, modulated row times a column of weights. -/
def proj {n : ℕ} (X W Sh Sc : Fin 1024 → EReal) (A : Fin 1024 → Fin n → EReal) (f : Fin n) : EReal :=
  ∑ d, hid X W Sh Sc d * A d f

/-- The rotation's angle at a column: in each head of 64, the row's angles in the first half, the column's in the other. -/
def angle (Ar Ac : Fin 16 → EReal) (j : ℕ) : EReal :=
  if j % 64 < 32 then Ar ⟨j % 16, by omega⟩ else Ac ⟨j % 16, by omega⟩

/-- The column that a column is rotated with: 16 further in a pair's first half, 16 back in its second. -/
def partner (j : Fin 640) : Fin 1280 :=
  if h : (j : ℕ) % 32 < 16 then ⟨(j : ℕ) + 16, by omega⟩ else ⟨(j : ℕ) - 16, by omega⟩

/-- The sign of the partner's share. -/
def sgn (j : ℕ) : EReal := if j % 32 < 16 then -1 else 1

/-- Column `j` of the query and key columns, rotated with its partner. -/
def rot (P : Fin 1280 → EReal) (Ar Ac : Fin 16 → EReal) (j : Fin 640) : EReal :=
  if (j : ℕ) % 32 < 16 then
    P ⟨j, by omega⟩ * Ideal.cos (angle Ar Ac j) - P (partner j) * Ideal.sin (angle Ar Ac j)
  else
    P ⟨j, by omega⟩ * Ideal.cos (angle Ar Ac j) + P (partner j) * Ideal.sin (angle Ar Ac j)

/-- With the sign in the sine, the two cases are one sum. -/
theorem rot_eq (P : Fin 1280 → EReal) (Ar Ac : Fin 16 → EReal) (j : Fin 640) :
    P ⟨j, by omega⟩ * Ideal.cos (angle Ar Ac j) + P (partner j) * (Ideal.sin (angle Ar Ac j) * sgn j)
      = rot P Ar Ac j := by
  unfold rot sgn
  split
  · rw [mul_neg, mul_one, mul_neg, ← sub_eq_add_neg]
  · rw [mul_one]

/-- Column `e` of group `g` of the Fourier columns, against a table. -/
def four (P : Fin 1280 → EReal) (D : Fin 128 → Fin 128 → EReal) (g : Fin 4) (e : Fin 128) : EReal :=
  ∑ k : Fin 128, P ⟨768 + ((g : ℕ) * 128 + k), by omega⟩ * D k e

/-- The angle in each half of a head, and the rotated column in each half of a pair, from the columns that are read. -/
theorem angle_lo (Ar Ac : Fin 16 → EReal) {j : ℕ} (h : j % 64 < 32) (r : Fin 16) (hr : j % 16 = r) :
    angle Ar Ac j = Ar r := (if_pos h).trans (congrArg Ar (Fin.ext hr))

theorem angle_hi (Ar Ac : Fin 16 → EReal) {j : ℕ} (h : ¬ j % 64 < 32) (r : Fin 16) (hr : j % 16 = r) :
    angle Ar Ac j = Ac r := (if_neg h).trans (congrArg Ac (Fin.ext hr))

theorem eq_angle_lo (Ar Ac : Fin 16 → EReal) (j : ℕ) (h : j % 64 < 32) (n : ℕ) (hn : n < 16) (e : n = j % 16) :
    Ar ⟨n, hn⟩ = angle Ar Ac j := (angle_lo Ar Ac h ⟨n, hn⟩ e.symm).symm

theorem eq_angle_hi (Ar Ac : Fin 16 → EReal) (j : ℕ) (h : ¬ j % 64 < 32) (n : ℕ) (hn : n < 16) (e : n = j % 16) :
    Ac ⟨n, hn⟩ = angle Ar Ac j := (angle_hi Ar Ac h ⟨n, hn⟩ e.symm).symm

theorem rot_lo (P : Fin 1280 → EReal) (Ar Ac : Fin 16 → EReal) (j : Fin 640) (u v : ℕ) (hu : u < 1280) (hv : v < 1280)
    (θ η : EReal) (h : (j : ℕ) % 32 < 16) (eu : u = j) (ev : v = j + 16) (hθ : θ = angle Ar Ac j) (hη : η = angle Ar Ac j) :
    P ⟨u, hu⟩ * Ideal.cos θ - P ⟨v, hv⟩ * Ideal.sin η = rot P Ar Ac j := by
  have e : partner j = ⟨v, hv⟩ := (dif_pos h).trans (Fin.ext ev.symm)
  unfold rot
  rw [if_pos h, e, hθ, hη, show (⟨j, by omega⟩ : Fin 1280) = ⟨u, hu⟩ from Fin.ext eu.symm]

theorem rot_hi (P : Fin 1280 → EReal) (Ar Ac : Fin 16 → EReal) (j : Fin 640) (u v : ℕ) (hu : u < 1280) (hv : v < 1280)
    (θ η : EReal) (h : ¬ (j : ℕ) % 32 < 16) (eu : u = j) (ev : v + 16 = j) (hθ : θ = angle Ar Ac j) (hη : η = angle Ar Ac j) :
    P ⟨u, hu⟩ * Ideal.cos θ + P ⟨v, hv⟩ * Ideal.sin η = rot P Ar Ac j := by
  have e : partner j = ⟨v, hv⟩ := (dif_neg h).trans (Fin.ext (by show (j : ℕ) - 16 = v; omega))
  unfold rot
  rw [if_neg h, e, hθ, hη, show (⟨j, by omega⟩ : Fin 1280) = ⟨u, hu⟩ from Fin.ext eu.symm]

/-- A choice is a value if either branch is. -/
theorem choice {p : Prop} [Decidable p] {α : Type} {f : p → α} {g : ¬ p → α} {y : α} (hf : ∀ h, f h = y) (hg : ∀ h, g h = y) :
    dite p f g = y := by
  by_cases h : p
  · rw [dif_pos h]; exact hf h
  · rw [dif_neg h]; exact hg h

section Arrays

variable (X : FVec Ideal S8x4096x1024 .f32) (NW : FVec Ideal S1024 .f32) (Sh Sc : FVec Ideal S8x1024 .f32)
  (W : FVec Ideal S1024x1280 .f32) (Ar Ac : FVec Ideal S4096x16 .f32) (D : FVec Ideal S128x128 .f32)

/-- The projected columns of token `s` of batch `b`. -/
def P (b : Fin 8) (s : Fin 4096) (f : Fin 1280) : EReal :=
  proj (fun d => X (ix3 b s d)) (fun d => NW (ix1 d)) (fun d => Sh (ix2 b d)) (fun d => Sc (ix2 b d))
    (fun d f => W (ix2 d f)) f

/-- The rotated query and key columns. -/
def R (b : Fin 8) (s : Fin 4096) (j : Fin 640) : EReal :=
  rot (P X NW Sh Sc W b s) (fun e => Ar (ix2 s e)) (fun e => Ac (ix2 s e)) j

/-- The result arrays: queries, keys, values, and the Fourier columns against a table. -/
def GQ : FVec Ideal S8x4096x512 .bf16 := fun i =>
  R X NW Sh Sc W Ar Ac (i 0) (i 1) ⟨(i 2 : Fin 512), by have : ((i 2 : Fin 512) : ℕ) < 512 := (i 2 : Fin 512).isLt; omega⟩
def GK : FVec Ideal S8x4096x128 .bf16 := fun i =>
  R X NW Sh Sc W Ar Ac (i 0) (i 1) ⟨512 + ((i 2 : Fin 128) : ℕ), by have : ((i 2 : Fin 128) : ℕ) < 128 := (i 2 : Fin 128).isLt; omega⟩
def GV : FVec Ideal S8x4096x128 .bf16 := fun i =>
  P X NW Sh Sc W (i 0) (i 1) ⟨640 + ((i 2 : Fin 128) : ℕ), by have : ((i 2 : Fin 128) : ℕ) < 128 := (i 2 : Fin 128).isLt; omega⟩
def GF : FVec Ideal S8x4096x512 .bf16 := fun i =>
  four (P X NW Sh Sc W (i 0) (i 1)) (fun k e => D (ix2 k e))
    ⟨((i 2 : Fin 512) : ℕ) / 128, by have : ((i 2 : Fin 512) : ℕ) < 512 := (i 2 : Fin 512).isLt; omega⟩
    ⟨((i 2 : Fin 512) : ℕ) % 128, by omega⟩

end Arrays

end Cert.AbInIdeal.Hand
-- ==== Proof.AbIn.Payload.lean ====
/-
The input projection: what the body stores, entry by entry.
-/
module

public import proofs.«01_k».proof.Proof.AbIn.Spec

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

/-! ## The rows of a block of 512 tokens -/

section Rows

variable (x0 : FVec Ideal S1x512x1024 .f32) (x1 : FVec Ideal S1x1024 .f32) (x2 x3 : FVec Ideal S1x1x1024 .f32)
  (x4 : FVec Ideal S1024x1920 .bf16) (x5 x6 : FVec Ideal S512x640 .f32) (x7 : FVec Ideal S128x256 .bf16)

/-- The projected columns of row `r` of the block, the partners' columns among them. -/
def row (r : Fin 512) (f : Fin 1920) : EReal :=
  proj (fun d => x0 (ix3 0 r d)) (fun d => x1 (ix2 0 d)) (fun d => x2 (ix3 0 0 d)) (fun d => x3 (ix3 0 0 d))
    (fun d f => x4 (ix2 d f)) f

abbrev pre : FVec Ideal S512x1920 .f32 := k0_pay3 (F := Ideal) x0 x1 x2 x3 x4

theorem row_apply (r : Fin 512) (f : Fin 1920) : pre x0 x1 x2 x3 x4 (ix2 r f) = row x0 x1 x2 x3 x4 r f := by
  pointwise [pre, k0_pay3, row, proj, hid, nrm]

abbrev straight : FVec Ideal S512x640 .f32 := k0_pay4 (F := Ideal) x0 x1 x2 x3 x4 x5
abbrev crossed : FVec Ideal S512x640 .f32 := k0_pay5 (F := Ideal) x0 x1 x2 x3 x4

/-- What the body stores: queries, keys and values. -/
theorem storeQ (z : Fin 1) (r : Fin 512) (j : Fin 512) :
    (k0_pay7 (F := Ideal) (straight x0 x1 x2 x3 x4 x5) (crossed x0 x1 x2 x3 x4) x6 : FVec Ideal S1x512x512 .bf16) (ix3 z r j)
      = row x0 x1 x2 x3 x4 r ⟨j, by omega⟩ * x5 (ix2 r ⟨j, by omega⟩)
        + row x0 x1 x2 x3 x4 r ⟨1280 + (j : ℕ), by omega⟩ * x6 (ix2 r ⟨j, by omega⟩) := by
  simp only [← row_apply]
  pointwise [k0_pay7, k0_pay6, straight, crossed, k0_pay4, k0_pay5]

theorem storeK (z : Fin 1) (r : Fin 512) (j : Fin 128) :
    (k0_pay8 (F := Ideal) (straight x0 x1 x2 x3 x4 x5) (crossed x0 x1 x2 x3 x4) x6 : FVec Ideal S1x512x128 .bf16) (ix3 z r j)
      = row x0 x1 x2 x3 x4 r ⟨512 + (j : ℕ), by omega⟩ * x5 (ix2 r ⟨512 + (j : ℕ), by omega⟩)
        + row x0 x1 x2 x3 x4 r ⟨1280 + (512 + (j : ℕ)), by omega⟩ * x6 (ix2 r ⟨512 + (j : ℕ), by omega⟩) := by
  simp only [← row_apply]
  pointwise [k0_pay8, k0_pay6, straight, crossed, k0_pay4, k0_pay5]

theorem storeV (z : Fin 1) (r : Fin 512) (j : Fin 128) :
    (k0_pay9 (F := Ideal) (pre x0 x1 x2 x3 x4) : FVec Ideal S1x512x128 .bf16) (ix3 z r j)
      = row x0 x1 x2 x3 x4 r ⟨640 + (j : ℕ), by omega⟩ := by
  rw [← row_apply]
  pointwise [k0_pay9]

end Rows

/-! ## One group of the Fourier columns -/

section Tiles

variable (p : FVec Ideal S512x1920 .f32) (x7 : FVec Ideal S128x256 .bf16)

/-- The 128 columns from `o` on times the 128 columns of the tables from `u` on. -/
def tile (o u : ℕ) (ho : o + 128 ≤ 1920) (hu : u + 128 ≤ 256) (r : Fin 512) (e : Fin 128) : EReal :=
  ∑ k : Fin 128, p (ix2 r ⟨o + (k : ℕ), by omega⟩) * x7 (ix2 k ⟨u + (e : ℕ), by omega⟩)

theorem tileA0 (z : Fin 1) (r : Fin 512) (e : Fin 128) :
    (k0_pay11 (F := Ideal) p x7 : FVec Ideal S1x512x128 .bf16) (ix3 z r e) = tile p x7 768 0 (by omega) (by omega) r e := by
  pointwise [k0_pay11, k0_pay10, tile]
theorem tileB0 (z : Fin 1) (r : Fin 512) (e : Fin 128) :
    (k0_pay12 (F := Ideal) p x7 : FVec Ideal S1x512x128 .bf16) (ix3 z r e) = tile p x7 768 128 (by omega) (by omega) r e := by
  pointwise [k0_pay12, k0_pay10, tile]
theorem tileA1 (z : Fin 1) (r : Fin 512) (e : Fin 128) :
    (k0_pay15 (F := Ideal) (k0_pay13 p) x7 : FVec Ideal S1x512x128 .bf16) (ix3 z r e) = tile p x7 896 0 (by omega) (by omega) r e := by
  pointwise [k0_pay15, k0_pay14, k0_pay13, tile]
theorem tileB1 (z : Fin 1) (r : Fin 512) (e : Fin 128) :
    (k0_pay16 (F := Ideal) (k0_pay13 p) x7 : FVec Ideal S1x512x128 .bf16) (ix3 z r e) = tile p x7 896 128 (by omega) (by omega) r e := by
  pointwise [k0_pay16, k0_pay14, k0_pay13, tile]
theorem tileA2 (z : Fin 1) (r : Fin 512) (e : Fin 128) :
    (k0_pay18 (F := Ideal) p x7 : FVec Ideal S1x512x128 .bf16) (ix3 z r e) = tile p x7 1024 0 (by omega) (by omega) r e := by
  pointwise [k0_pay18, k0_pay17, tile]
theorem tileB2 (z : Fin 1) (r : Fin 512) (e : Fin 128) :
    (k0_pay19 (F := Ideal) p x7 : FVec Ideal S1x512x128 .bf16) (ix3 z r e) = tile p x7 1024 128 (by omega) (by omega) r e := by
  pointwise [k0_pay19, k0_pay17, tile]
theorem tileA3 (z : Fin 1) (r : Fin 512) (e : Fin 128) :
    (k0_pay1 (F := Ideal) (k0_pay21 p x7) : FVec Ideal S1x512x128 .bf16) (ix3 z r e) = tile p x7 1152 0 (by omega) (by omega) r e := by
  pointwise [k0_pay1, k0_pay21, k0_pay20, tile]
theorem tileB3 (z : Fin 1) (r : Fin 512) (e : Fin 128) :
    (k0_pay2 (F := Ideal) (k0_pay20 p x7) : FVec Ideal S1x512x128 .bf16) (ix3 z r e) = tile p x7 1152 128 (by omega) (by omega) r e := by
  pointwise [k0_pay2, k0_pay20, tile]

end Tiles

end Cert.AbInIdeal.Hand
-- ==== Proof.AbIn.Args.lean ====
/-
The input projection: its arguments, by name.
-/
module

public import proofs.«01_k».proof.Proof.AbIn.Spec

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

variable (m : (ℓ : Loc nD τ sig) → Buf (Elt Ideal) ℓ)

abbrev aX (c : Dev nD) : FVec Ideal S8x4096x1024 .f32 := m ((c : Thread nD τ).loc main_arg0)
abbrev aNW (c : Dev nD) : FVec Ideal S1024 .f32 := m ((c : Thread nD τ).loc main_arg1)
abbrev aSh (c : Dev nD) : FVec Ideal S8x1024 .f32 := m ((c : Thread nD τ).loc main_arg2)
abbrev aSc (c : Dev nD) : FVec Ideal S8x1024 .f32 := m ((c : Thread nD τ).loc main_arg3)
abbrev aW (c : Dev nD) : FVec Ideal S1024x1280 .f32 := m ((c : Thread nD τ).loc main_arg4)
abbrev aAr (c : Dev nD) : FVec Ideal S4096x16 .f32 := m ((c : Thread nD τ).loc main_arg5)
abbrev aAc (c : Dev nD) : FVec Ideal S4096x16 .f32 := m ((c : Thread nD τ).loc main_arg6)
abbrev aDc (c : Dev nD) : FVec Ideal S128x128 .f32 := m ((c : Thread nD τ).loc main_arg7)
abbrev aDs (c : Dev nD) : FVec Ideal S128x128 .f32 := m ((c : Thread nD τ).loc main_arg8)

end Cert.AbInIdeal.Hand
-- ==== Proof.AbIn.Tables.lean ====
/-
The input projection: the arrays prepared for the kernel from its arguments.
-/
module

public import proofs.«01_k».proof.Proof.AbIn.Args

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

variable (m : (ℓ : Loc nD τ sig) → Buf (Elt Ideal) ℓ)

/-! ## What the region finds in the arrays prepared for it -/

section Entries

variable (c : Dev nD)

/-- The projection's weights, then the rotated columns' weights again, each in its partner's place. -/
theorem entry_lo (d : Fin 1024) (f : Fin 1280) :
    (show FVec Ideal S1024x1920 .bf16 from V m c main_v22) (ix2 d ⟨f, by omega⟩) = aW m c (ix2 d f) := by
  entry_read
  pointwise

/-- The two tables of the Fourier columns, side by side. -/
theorem entry_c (k e : Fin 128) :
    (show FVec Ideal S128x256 .bf16 from V m c main_v25) (ix2 k ⟨e, by omega⟩) = aDc m c (ix2 k e) := by
  entry_read
  pointwise

theorem entry_s (k e : Fin 128) :
    (show FVec Ideal S128x256 .bf16 from V m c main_v25) (ix2 k ⟨128 + (e : ℕ), by omega⟩) = aDs m c (ix2 k e) := by
  entry_read
  pointwise

end Entries

end Cert.AbInIdeal.Hand
-- ==== Proof.AbIn.Angles.lean ====
/-
The input projection: the cosines prepared for the kernel from the angles.
-/
module

public import proofs.«01_k».proof.Proof.AbIn.Args

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

variable (m : (ℓ : Loc nD τ sig) → Buf (Elt Ideal) ℓ) (c : Dev nD)

/-- The cosines of the angles. -/
theorem entry_cos (s : Fin 4096) (j : Fin 640) :
    (show FVec Ideal S4096x640 .f32 from V m c main_v4) (ix2 s j)
      = Ideal.cos (angle (fun e => aAr m c (ix2 s e)) (fun e => aAc m c (ix2 s e)) j) := by
  entry_read
  pointwise
  refine congrArg Ideal.cos ?_
  refine choice (fun g0 => ?_) fun g0 => choice (fun g1 => ?_) fun g1 => choice (fun g2 => ?_) fun g2 => ?_
  · refine eq_angle_lo (fun e => aAr m c (ix2 s e)) (fun e => aAc m c (ix2 s e)) j ?_ _ _ ?_ <;> omega
  · refine eq_angle_lo (fun e => aAr m c (ix2 s e)) (fun e => aAc m c (ix2 s e)) j ?_ _ _ ?_ <;> omega
  · refine eq_angle_hi (fun e => aAr m c (ix2 s e)) (fun e => aAc m c (ix2 s e)) j ?_ _ _ ?_ <;> omega
  · refine eq_angle_hi (fun e => aAr m c (ix2 s e)) (fun e => aAc m c (ix2 s e)) j ?_ _ _ ?_ <;> omega

end Cert.AbInIdeal.Hand
-- ==== Proof.AbIn.Sines.lean ====
/-
The input projection: the signed sines prepared for the kernel from the angles.
-/
module

public import proofs.«01_k».proof.Proof.AbIn.Args

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

variable (m : (ℓ : Loc nD τ sig) → Buf (Elt Ideal) ℓ) (c : Dev nD)

/-- The sines of the angles, with the partner's sign. -/
theorem entry_sin (s : Fin 4096) (j : Fin 640) :
    (show FVec Ideal S4096x640 .f32 from V m c main_v14) (ix2 s j)
      = Ideal.sin (angle (fun e => aAr m c (ix2 s e)) (fun e => aAc m c (ix2 s e)) j) * sgn j := by
  entry_read
  pointwise
  by_cases h : (j : ℕ) % 32 < 16
  · have hp : (j : ℕ) / 16 % 2 < 1 := by omega
    have hs : ∀ x : EReal, x * sgn j = -x := fun x => by rw [show sgn j = -1 from if_pos h, mul_neg, mul_one]
    rw [dif_pos hp]
    refine Eq.trans ?_ (hs _).symm
    refine congrArg (fun x => -Ideal.sin x) ?_
    refine choice (fun g0 => ?_) fun g0 => choice (fun g1 => ?_) fun g1 => choice (fun g2 => ?_) fun g2 => ?_
    · refine eq_angle_lo (fun e => aAr m c (ix2 s e)) (fun e => aAc m c (ix2 s e)) j ?_ _ _ ?_ <;> omega
    · refine eq_angle_lo (fun e => aAr m c (ix2 s e)) (fun e => aAc m c (ix2 s e)) j ?_ _ _ ?_ <;> omega
    · refine eq_angle_hi (fun e => aAr m c (ix2 s e)) (fun e => aAc m c (ix2 s e)) j ?_ _ _ ?_ <;> omega
    · refine eq_angle_hi (fun e => aAr m c (ix2 s e)) (fun e => aAc m c (ix2 s e)) j ?_ _ _ ?_ <;> omega
  · have hp : ¬ (j : ℕ) / 16 % 2 < 1 := by omega
    have hs : ∀ x : EReal, x * sgn j = x := fun x => by rw [show sgn j = 1 from if_neg h, mul_one]
    rw [dif_neg hp]
    refine Eq.trans ?_ (hs _).symm
    refine congrArg Ideal.sin ?_
    refine choice (fun g0 => ?_) fun g0 => choice (fun g1 => ?_) fun g1 => choice (fun g2 => ?_) fun g2 => ?_
    · refine eq_angle_lo (fun e => aAr m c (ix2 s e)) (fun e => aAc m c (ix2 s e)) j ?_ _ _ ?_ <;> omega
    · refine eq_angle_lo (fun e => aAr m c (ix2 s e)) (fun e => aAc m c (ix2 s e)) j ?_ _ _ ?_ <;> omega
    · refine eq_angle_hi (fun e => aAr m c (ix2 s e)) (fun e => aAc m c (ix2 s e)) j ?_ _ _ ?_ <;> omega
    · refine eq_angle_hi (fun e => aAr m c (ix2 s e)) (fun e => aAc m c (ix2 s e)) j ?_ _ _ ?_ <;> omega

end Cert.AbInIdeal.Hand
-- ==== Proof.AbIn.Partners.lean ====
/-
The input projection: the partners' weights.
-/
module

public import proofs.«01_k».proof.Proof.AbIn.Args

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

variable (m : (ℓ : Loc nD τ sig) → Buf (Elt Ideal) ℓ)

/-! ## What the region finds in the arrays prepared for it -/

section Entries

variable (c : Dev nD)

theorem partner_lo (j : Fin 640) (h : (j : ℕ) % 32 < 16) (n : ℕ) (hn : n < 1280)
    (e : n = (j : ℕ) / 32 * 32 + (1 + (j : ℕ) / 16 % 2) * 16 + (j : ℕ) % 16) : partner j = ⟨n, hn⟩ := by
  have e : n = (j : ℕ) + 16 := by omega
  unfold partner
  rw [dif_pos h]
  exact Fin.ext e.symm

theorem partner_hi (j : Fin 640) (h : ¬ (j : ℕ) % 32 < 16) (n : ℕ) (hn : n < 1280)
    (e : n = (j : ℕ) / 32 * 32 + ((j : ℕ) / 16 % 2 - 1) * 16 + (j : ℕ) % 16) : partner j = ⟨n, hn⟩ := by
  have e : n = (j : ℕ) - 16 := by omega
  unfold partner
  rw [dif_neg h]
  exact Fin.ext e.symm

/-- The rotated columns' weights, each in its partner's place. -/
theorem entry_hi (d : Fin 1024) (j : Fin 640) :
    (show FVec Ideal S1024x1920 .bf16 from V m c main_v22) (ix2 d ⟨1280 + (j : ℕ), by omega⟩)
      = aW m c (ix2 d (partner j)) := by
  entry_read
  pointwise
  by_cases h : (j : ℕ) % 32 < 16
  · have hp : (j : ℕ) / 16 % 2 < 1 := by omega
    rw [dif_pos hp]
    refine congrArg (fun f : Fin 1280 => aW m c (ix2 d f)) (?_ : (⟨_, _⟩ : Fin 1280) = partner j)
    exact (partner_lo j h _ _ (by omega)).symm
  · have hp : ¬ (j : ℕ) / 16 % 2 < 1 := by omega
    rw [dif_neg hp]
    refine congrArg (fun f : Fin 1280 => aW m c (ix2 d f)) (?_ : (⟨_, _⟩ : Fin 1280) = partner j)
    exact (partner_hi j h _ _ (by omega)).symm

end Entries

end Cert.AbInIdeal.Hand
-- ==== Proof.AbIn.Value.lean ====
/-
The input projection: what one block stores, and the result arrays put together from the blocks.
-/
module

public import proofs.«01_k».proof.Proof.AbIn.Payload
public import proofs.«01_k».proof.Proof.AbIn.Tables
public import proofs.«01_k».proof.Proof.AbIn.Angles
public import proofs.«01_k».proof.Proof.AbIn.Sines
public import proofs.«01_k».proof.Proof.AbIn.Partners

@[expose] public section

set_option maxRecDepth 16384

noncomputable section

namespace Cert.AbInIdeal.Hand

open Idealize.ShloMosaic.Pipeline (Dat)
open Cert.AbInIdeal Cert.AbInIdeal.Gen Idealize.ShloMosaic Idealize.ShloMosaic.TcCoe Idealize.SL.Sem
open Cert.SguIdeal.Hand (hid nrm)

/-! ## The blocks of the arguments -/

variable (m : (ℓ : Loc nD τ sig) → Buf (Elt Ideal) ℓ)

/-- Where the grid point `t` reads and writes: batch `t / 8`, token block `t % 8`, weights and tables of columns whole. -/
theorem idx : ∀ t : Fin cfg0.N, win0_0.index t = ![t.val / 8, t.val % 8, 0]
    ∧ win0_1.index t = ![0, 0] ∧ win0_2.index t = ![t.val / 8, 0, 0] ∧ win0_3.index t = ![t.val / 8, 0, 0]
    ∧ win0_4.index t = ![0, 0] ∧ win0_5.index t = ![t.val % 8, 0] ∧ win0_6.index t = ![t.val % 8, 0]
    ∧ win0_7.index t = ![0, 0] ∧ win0_8.index t = ![t.val / 8, t.val % 8, 0]
    ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0] :=
  (by decide +kernel : ∀ t : Fin grid0.N, _)

/-- The grid point's batch, and row `r` of its token block. -/
def pb (t : Fin cfg0.N) : Fin 8 := ⟨t.val / 8, by have : t.val < 64 := lt_of_lt_of_eq t.isLt N_0; omega⟩
def ps (t : Fin cfg0.N) (r : Fin 512) : Fin 4096 := ⟨t.val % 8 * 512 + r, by omega⟩

section Blocks

variable (c : Dev nD) (t : Fin cfg0.N)

theorem blk0 (r : Fin 512) (d : Fin 1024) :
    (show FVec Ideal S1x512x1024 .f32 from iblk m c 0 t) (ix3 0 r d) = aX m c (ix3 (pb t) (ps t r) d) := by
  blk_ext [iblk, V, idx t, pb, ps, aX]

theorem blk1 (d : Fin 1024) :
    (show FVec Ideal S1x1024 .f32 from iblk m c 1 t) (ix2 0 d) = aNW m c (ix1 d) := by
  blk_simp [iblk]
  entry_read
  pointwise
  blk_ext [idx t, aNW]

theorem blk2 (d : Fin 1024) :
    (show FVec Ideal S1x1x1024 .f32 from iblk m c 2 t) (ix3 0 0 d) = aSh m c (ix2 (pb t) d) := by
  blk_simp [iblk]
  entry_read
  pointwise
  blk_ext [idx t, pb, aSh]

theorem blk3 (d : Fin 1024) :
    (show FVec Ideal S1x1x1024 .f32 from iblk m c 3 t) (ix3 0 0 d) = aSc m c (ix2 (pb t) d) := by
  blk_simp [iblk]
  entry_read
  pointwise
  blk_ext [idx t, pb, aSc]

theorem emb4 (d : Fin 1024) (f : Fin 1920) : (win0_4.blk t).view.emb (ix2 d f) = ix2 d f := by
  funext a
  match a with
  | 0 => exact Fin.ext (by blk_simp [idx t])
  | 1 => exact Fin.ext (by blk_simp [idx t])

theorem blk4_lo (d : Fin 1024) (f : Fin 1280) :
    (show FVec Ideal S1024x1920 .bf16 from iblk m c 4 t) (ix2 d ⟨f, by omega⟩) = aW m c (ix2 d f) :=
  (congrArg (show FVec Ideal S1024x1920 .bf16 from V m c main_v22) (emb4 t _ _)).trans (entry_lo m c d f)

theorem blk4_hi (d : Fin 1024) (j : Fin 640) :
    (show FVec Ideal S1024x1920 .bf16 from iblk m c 4 t) (ix2 d ⟨1280 + (j : ℕ), by omega⟩)
      = aW m c (ix2 d (partner j)) :=
  (congrArg (show FVec Ideal S1024x1920 .bf16 from V m c main_v22) (emb4 t _ _)).trans (entry_hi m c d j)

theorem blk5 (r : Fin 512) (j : Fin 640) :
    (show FVec Ideal S512x640 .f32 from iblk m c 5 t) (ix2 r j)
      = Ideal.cos (angle (fun e => aAr m c (ix2 (ps t r) e)) (fun e => aAc m c (ix2 (ps t r) e)) j) := by
  have e : (win0_5.blk t).view.emb (ix2 r j) = ix2 (ps t r) j := by
    funext a
    match a with
    | 0 => exact Fin.ext (by blk_simp [idx t, ps])
    | 1 => exact Fin.ext (by blk_simp [idx t])
  exact (congrArg (show FVec Ideal S4096x640 .f32 from V m c main_v4) e).trans (entry_cos m c _ j)

theorem blk6 (r : Fin 512) (j : Fin 640) :
    (show FVec Ideal S512x640 .f32 from iblk m c 6 t) (ix2 r j)
      = Ideal.sin (angle (fun e => aAr m c (ix2 (ps t r) e)) (fun e => aAc m c (ix2 (ps t r) e)) j) * sgn j := by
  have e : (win0_6.blk t).view.emb (ix2 r j) = ix2 (ps t r) j := by
    funext a
    match a with
    | 0 => exact Fin.ext (by blk_simp [idx t, ps])
    | 1 => exact Fin.ext (by blk_simp [idx t])
  exact (congrArg (show FVec Ideal S4096x640 .f32 from V m c main_v14) e).trans (entry_sin m c _ j)

theorem emb7 (k : Fin 128) (f : Fin 256) : (win0_7.blk t).view.emb (ix2 k f) = ix2 k f := by
  funext a
  match a with
  | 0 => exact Fin.ext (by blk_simp [idx t])
  | 1 => exact Fin.ext (by blk_simp [idx t])

theorem blk7_lo (k e : Fin 128) :
    (show FVec Ideal S128x256 .bf16 from iblk m c 7 t) (ix2 k ⟨e, by omega⟩) = aDc m c (ix2 k e) :=
  (congrArg (show FVec Ideal S128x256 .bf16 from V m c main_v25) (emb7 t _ _)).trans (entry_c m c k e)

theorem blk7_hi (k e : Fin 128) :
    (show FVec Ideal S128x256 .bf16 from iblk m c 7 t) (ix2 k ⟨128 + (e : ℕ), by omega⟩) = aDs m c (ix2 k e) :=
  (congrArg (show FVec Ideal S128x256 .bf16 from V m c main_v25) (emb7 t _ _)).trans (entry_s m c k e)

/-- The block's rows are the rows of the projected arrays, and, past column 1280, their partners. -/
theorem row_lo (r : Fin 512) (f : Fin 1280) :
    row (iblk m c 0 t) (iblk m c 1 t) (iblk m c 2 t) (iblk m c 3 t) (iblk m c 4 t) r ⟨f, by omega⟩
      = P (aX m c) (aNW m c) (aSh m c) (aSc m c) (aW m c) (pb t) (ps t r) f := by
  unfold row P proj
  rw [show (fun d => (iblk m c 0 t : FVec Ideal S1x512x1024 .f32) (ix3 0 r d)) = fun d => aX m c (ix3 (pb t) (ps t r) d)
      from funext (blk0 m c t r),
    show (fun d => (iblk m c 1 t : FVec Ideal S1x1024 .f32) (ix2 0 d)) = fun d => aNW m c (ix1 d) from funext (blk1 m c t),
    show (fun d => (iblk m c 2 t : FVec Ideal S1x1x1024 .f32) (ix3 0 0 d)) = fun d => aSh m c (ix2 (pb t) d)
      from funext (blk2 m c t),
    show (fun d => (iblk m c 3 t : FVec Ideal S1x1x1024 .f32) (ix3 0 0 d)) = fun d => aSc m c (ix2 (pb t) d)
      from funext (blk3 m c t)]
  exact Finset.sum_congr rfl fun d _ => congrArg₂ (· * ·) rfl (blk4_lo m c t d f)

theorem row_hi (r : Fin 512) (j : Fin 640) :
    row (iblk m c 0 t) (iblk m c 1 t) (iblk m c 2 t) (iblk m c 3 t) (iblk m c 4 t) r ⟨1280 + (j : ℕ), by omega⟩
      = P (aX m c) (aNW m c) (aSh m c) (aSc m c) (aW m c) (pb t) (ps t r) (partner j) := by
  unfold row P proj
  rw [show (fun d => (iblk m c 0 t : FVec Ideal S1x512x1024 .f32) (ix3 0 r d)) = fun d => aX m c (ix3 (pb t) (ps t r) d)
      from funext (blk0 m c t r),
    show (fun d => (iblk m c 1 t : FVec Ideal S1x1024 .f32) (ix2 0 d)) = fun d => aNW m c (ix1 d) from funext (blk1 m c t),
    show (fun d => (iblk m c 2 t : FVec Ideal S1x1x1024 .f32) (ix3 0 0 d)) = fun d => aSh m c (ix2 (pb t) d)
      from funext (blk2 m c t),
    show (fun d => (iblk m c 3 t : FVec Ideal S1x1x1024 .f32) (ix3 0 0 d)) = fun d => aSc m c (ix2 (pb t) d)
      from funext (blk3 m c t)]
  exact Finset.sum_congr rfl fun d _ => congrArg₂ (· * ·) rfl (blk4_hi m c t d j)

/-- Column `j` of the block's rotated columns. -/
theorem turned (r : Fin 512) (j : Fin 640) :
    row (iblk m c 0 t) (iblk m c 1 t) (iblk m c 2 t) (iblk m c 3 t) (iblk m c 4 t) r ⟨j, by omega⟩
        * (show FVec Ideal S512x640 .f32 from iblk m c 5 t) (ix2 r j)
      + row (iblk m c 0 t) (iblk m c 1 t) (iblk m c 2 t) (iblk m c 3 t) (iblk m c 4 t) r ⟨1280 + (j : ℕ), by omega⟩
        * (show FVec Ideal S512x640 .f32 from iblk m c 6 t) (ix2 r j)
      = R (aX m c) (aNW m c) (aSh m c) (aSc m c) (aW m c) (aAr m c) (aAc m c) (pb t) (ps t r) j := by
  rw [blk5, blk6, row_hi, show row (iblk m c 0 t) (iblk m c 1 t) (iblk m c 2 t) (iblk m c 3 t) (iblk m c 4 t) r ⟨j, by omega⟩
    = P (aX m c) (aNW m c) (aSh m c) (aSc m c) (aW m c) (pb t) (ps t r) ⟨j, by omega⟩ from row_lo m c t r ⟨j, by omega⟩]
  exact rot_eq _ _ _ _

/-- The block's columns from `768 + 128 g` on against 128 columns of the tables are the group `g` against the table. -/
theorem tile_four (g : Fin 4) (o u : ℕ) (h : o = 768 + (g : ℕ) * 128) (ho : o + 128 ≤ 1920) (hu : u + 128 ≤ 256)
    (D : FVec Ideal S128x128 .f32)
    (hD : ∀ k e : Fin 128, (show FVec Ideal S128x256 .bf16 from iblk m c 7 t) (ix2 k ⟨u + (e : ℕ), by omega⟩) = D (ix2 k e))
    (r : Fin 512) (e : Fin 128) :
    tile (pre (iblk m c 0 t) (iblk m c 1 t) (iblk m c 2 t) (iblk m c 3 t) (iblk m c 4 t)) (iblk m c 7 t) o u ho hu r e
      = four (P (aX m c) (aNW m c) (aSh m c) (aSc m c) (aW m c) (pb t) (ps t r)) (fun k e => D (ix2 k e)) g e := by
  unfold tile four
  refine Finset.sum_congr rfl fun k _ => congrArg₂ (· * ·) ?_ (hD k e)
  refine (row_apply _ _ _ _ _ r _).trans ?_
  refine (congrArg (row (iblk m c 0 t) (iblk m c 1 t) (iblk m c 2 t) (iblk m c 3 t) (iblk m c 4 t) r) (Fin.ext (?_ : o + (k : ℕ) = 768 + ((g : ℕ) * 128 + k)))).trans
    (row_lo m c t r ⟨768 + ((g : ℕ) * 128 + k), by omega⟩)
  omega

/-- A stored group, at its place in the array. -/
theorem group_at (f : FVec Ideal S1x512x128 .bf16) (g : Fin 4) (o u : ℕ) (h : o = 768 + (g : ℕ) * 128)
    (ho : o + 128 ≤ 1920) (hu : u + 128 ≤ 256) (D : FVec Ideal S128x128 .f32)
    (hD : ∀ k e : Fin 128, (show FVec Ideal S128x256 .bf16 from iblk m c 7 t) (ix2 k ⟨u + (e : ℕ), by omega⟩) = D (ix2 k e))
    (hf : ∀ (z : Fin 1) (r : Fin 512) (e : Fin 128), f (ix3 z r e) = tile (pre (iblk m c 0 t) (iblk m c 1 t) (iblk m c 2 t) (iblk m c 3 t) (iblk m c 4 t)) (iblk m c 7 t) o u ho hu r e)
    (x : S1x512x128.Idx) (y : S1x512x512.Idx) (h1 : (y 1 : ℕ) = x 1) (h2 : (y 2 : ℕ) = (g : ℕ) * 128 + x 2) :
    f x = GF (aX m c) (aNW m c) (aSh m c) (aSc m c) (aW m c) D (ix3 (pb t) (ps t (y 1)) (y 2)) := by
  have hx : (x 2 : ℕ) < 128 := (x 2).isLt
  have hy : (y 2 : ℕ) < 512 := (y 2).isLt
  have e1 : (x 1 : Fin 512) = y 1 := Fin.ext h1.symm
  have e2 : g = ⟨(y 2 : ℕ) / 128, by omega⟩ := Fin.ext (by show (g : ℕ) = (y 2 : ℕ) / 128; omega)
  have e3 : (x 2 : Fin 128) = ⟨(y 2 : ℕ) % 128, by omega⟩ := Fin.ext (by show (x 2 : ℕ) = (y 2 : ℕ) % 128; omega)
  refine (congrArg f (eq_ix3 x)).trans ((hf _ _ _).trans ((tile_four m c t g o u h ho hu D hD _ _).trans ?_))
  exact (congrArg (fun r => four (P (aX m c) (aNW m c) (aSh m c) (aSc m c) (aW m c) (pb t) (ps t r)) (fun k e => D (ix2 k e)) g (x 2)) e1).trans
    (congrArg₂ (four (P (aX m c) (aNW m c) (aSh m c) (aSc m c) (aW m c) (pb t) (ps t (y 1))) (fun k e => D (ix2 k e))) e2 e3)

end Blocks

/-! ## The result arrays -/

theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel

/-- The values that several stores share. -/
theorem pay22_eq (x0 : FVec Ideal S1x512x1024 .f32) (x1 : FVec Ideal S1x1024 .f32) (x2 x3 : FVec Ideal S1x1x1024 .f32)
    (x4 : FVec Ideal S1024x1920 .bf16) (x5 x6 : FVec Ideal S512x640 .f32) (x7 : FVec Ideal S128x256 .bf16) :
    k0_pay22 (F := Ideal) x0 x1 x2 x3 x4 x5 x6 x7 = pre x0 x1 x2 x3 x4 := by
  unfold k0_pay22
  simp (disch := decide) only [View.ld_unit_lit']

theorem pay23_eq (x0 : FVec Ideal S1x512x1024 .f32) (x1 : FVec Ideal S1x1024 .f32) (x2 x3 : FVec Ideal S1x1x1024 .f32)
    (x4 : FVec Ideal S1024x1920 .bf16) (x5 x6 : FVec Ideal S512x640 .f32) (x7 : FVec Ideal S128x256 .bf16) :
    k0_pay23 (F := Ideal) x0 x1 x2 x3 x4 x5 x6 x7 = straight x0 x1 x2 x3 x4 x5 := by
  unfold k0_pay23
  simp (disch := decide) only [View.ld_unit_lit']

theorem pay24_eq (x0 : FVec Ideal S1x512x1024 .f32) (x1 : FVec Ideal S1x1024 .f32) (x2 x3 : FVec Ideal S1x1x1024 .f32)
    (x4 : FVec Ideal S1024x1920 .bf16) (x5 x6 : FVec Ideal S512x640 .f32) (x7 : FVec Ideal S128x256 .bf16) :
    k0_pay24 (F := Ideal) x0 x1 x2 x3 x4 x5 x6 x7 = crossed x0 x1 x2 x3 x4 := by
  unfold k0_pay24
  simp (disch := decide) only [View.ld_unit_lit']

theorem pay25_eq (x0 : FVec Ideal S1x512x1024 .f32) (x1 : FVec Ideal S1x1024 .f32) (x2 x3 : FVec Ideal S1x1x1024 .f32)
    (x4 : FVec Ideal S1024x1920 .bf16) (x5 x6 : FVec Ideal S512x640 .f32) (x7 : FVec Ideal S128x256 .bf16) :
    k0_pay25 (F := Ideal) x0 x1 x2 x3 x4 x5 x6 x7 = k0_pay13 (pre x0 x1 x2 x3 x4) :=
  congrArg k0_pay13 (pay22_eq x0 x1 x2 x3 x4 x5 x6 x7)

theorem final_q (c : Dev nD) : (dats m 0 c).arrAt 8 (cfgs 0).N = GQ (aX m c) (aNW m c) (aSh m c) (aSc m c) (aW m c) (aAr m c) (aAc m c) := by
  refine (dats m 0 c).arrAt_eq_of_covers 8 _ covers8 fun t _ y => ?_
  blk_simp
  rw [after0_8]
  frame_out
  rw [pay23_eq, pay24_eq]
  obtain ⟨z, r, j, rfl⟩ : ∃ (z : Fin 1) (r : Fin 512) (j : Fin 512), y = ix3 z r j := ⟨y 0, y 1, y 2, eq_ix3 y⟩
  have hz : (z : ℕ) < 1 := z.isLt
  have e : ((View.whole main_v29_0).slice (win0_8.rect t)).emb (ix3 z r j) = ix3 (pb t) (ps t r) j := by
    funext a
    match a with
    | 0 => exact Fin.ext (by blk_simp [idx t, pb])
    | 1 => exact Fin.ext (by blk_simp [idx t, ps])
    | 2 => exact Fin.ext (by blk_simp [idx t])
  rw [e]
  exact (storeQ _ _ _ _ _ _ _ z r j).trans (turned m c t r ⟨j, by omega⟩)

theorem final_k (c : Dev nD) : (dats m 0 c).arrAt 9 (cfgs 0).N = GK (aX m c) (aNW m c) (aSh m c) (aSc m c) (aW m c) (aAr m c) (aAc m c) := by
  refine (dats m 0 c).arrAt_eq_of_covers 9 _ covers9 fun t _ y => ?_
  blk_simp
  rw [after0_9]
  frame_out
  rw [pay23_eq, pay24_eq]
  obtain ⟨z, r, j, rfl⟩ : ∃ (z : Fin 1) (r : Fin 512) (j : Fin 128), y = ix3 z r j := ⟨y 0, y 1, y 2, eq_ix3 y⟩
  have hz : (z : ℕ) < 1 := z.isLt
  have e : ((View.whole main_v29_1).slice (win0_9.rect t)).emb (ix3 z r j) = ix3 (pb t) (ps t r) j := by
    funext a
    match a with
    | 0 => exact Fin.ext (by blk_simp [idx t, pb])
    | 1 => exact Fin.ext (by blk_simp [idx t, ps])
    | 2 => exact Fin.ext (by blk_simp [idx t])
  rw [e]
  exact (storeK _ _ _ _ _ _ _ z r j).trans (turned m c t r ⟨512 + (j : ℕ), by omega⟩)

theorem final_v (c : Dev nD) : (dats m 0 c).arrAt 10 (cfgs 0).N = GV (aX m c) (aNW m c) (aSh m c) (aSc m c) (aW m c) := by
  refine (dats m 0 c).arrAt_eq_of_covers 10 _ covers10 fun t _ y => ?_
  blk_simp
  rw [after0_10]
  frame_out
  rw [pay22_eq]
  obtain ⟨z, r, j, rfl⟩ : ∃ (z : Fin 1) (r : Fin 512) (j : Fin 128), y = ix3 z r j := ⟨y 0, y 1, y 2, eq_ix3 y⟩
  have hz : (z : ℕ) < 1 := z.isLt
  have e : ((View.whole main_v29_2).slice (win0_10.rect t)).emb (ix3 z r j) = ix3 (pb t) (ps t r) j := by
    funext a
    match a with
    | 0 => exact Fin.ext (by blk_simp [idx t, pb])
    | 1 => exact Fin.ext (by blk_simp [idx t, ps])
    | 2 => exact Fin.ext (by blk_simp [idx t])
  rw [e]
  exact (storeV _ _ _ _ _ z r j).trans (row_lo m c t r ⟨640 + (j : ℕ), by omega⟩)

theorem final_a (c : Dev nD) : (dats m 0 c).arrAt 11 (cfgs 0).N = GF (aX m c) (aNW m c) (aSh m c) (aSc m c) (aW m c) (aDc m c) := by
  refine (dats m 0 c).arrAt_eq_of_covers 11 _ covers11 fun t _ y => ?_
  blk_simp
  rw [after0_11]
  frame_out
  have hz : (y 0 : ℕ) < 1 := (y 0).isLt
  have e : ((View.whole main_v29_3).slice (win0_11.rect t)).emb (y) = ix3 (pb t) (ps t (y 1)) (y 2) := by
    funext a
    match a with
    | 0 => exact Fin.ext (by blk_simp [idx t, pb])
    | 1 => exact Fin.ext (by blk_simp [idx t, ps])
    | 2 => exact Fin.ext (by blk_simp [idx t])
  rw [e]
  rw [pay22_eq, pay25_eq]
  canon_tiles y h
  case piece0 =>
    exact group_at m c t _ 3 1152 0 rfl (by omega) (by omega) _ (fun k e => (congrArg (fun f => (show FVec Ideal S128x256 .bf16 from iblk m c 7 t) (ix2 k f)) (Fin.ext (Nat.zero_add _))).trans (blk7_lo m c t k e)) (tileA3 _ _) _ _ (by omega) (by omega)
  case piece1 =>
    exact group_at m c t _ 2 1024 0 rfl (by omega) (by omega) _ (fun k e => (congrArg (fun f => (show FVec Ideal S128x256 .bf16 from iblk m c 7 t) (ix2 k f)) (Fin.ext (Nat.zero_add _))).trans (blk7_lo m c t k e)) (tileA2 _ _) _ _ (by omega) (by omega)
  case piece2 =>
    exact group_at m c t _ 1 896 0 rfl (by omega) (by omega) _ (fun k e => (congrArg (fun f => (show FVec Ideal S128x256 .bf16 from iblk m c 7 t) (ix2 k f)) (Fin.ext (Nat.zero_add _))).trans (blk7_lo m c t k e)) (tileA1 _ _) _ _ (by omega) (by omega)
  case piece3 =>
    exact group_at m c t _ 0 768 0 rfl (by omega) (by omega) _ (fun k e => (congrArg (fun f => (show FVec Ideal S128x256 .bf16 from iblk m c 7 t) (ix2 k f)) (Fin.ext (Nat.zero_add _))).trans (blk7_lo m c t k e)) (tileA0 _ _) _ _ (by omega) (by omega)

theorem final_b (c : Dev nD) : (dats m 0 c).arrAt 12 (cfgs 0).N = GF (aX m c) (aNW m c) (aSh m c) (aSc m c) (aW m c) (aDs m c) := by
  refine (dats m 0 c).arrAt_eq_of_covers 12 _ covers12 fun t _ y => ?_
  blk_simp
  rw [after0_12]
  frame_out
  have hz : (y 0 : ℕ) < 1 := (y 0).isLt
  have e : ((View.whole main_v29_4).slice (win0_12.rect t)).emb (y) = ix3 (pb t) (ps t (y 1)) (y 2) := by
    funext a
    match a with
    | 0 => exact Fin.ext (by blk_simp [idx t, pb])
    | 1 => exact Fin.ext (by blk_simp [idx t, ps])
    | 2 => exact Fin.ext (by blk_simp [idx t])
  rw [e]
  rw [pay22_eq, pay25_eq]
  canon_tiles y h
  case piece0 =>
    exact group_at m c t _ 3 1152 128 rfl (by omega) (by omega) _ (blk7_hi m c t) (tileB3 _ _) _ _ (by omega) (by omega)
  case piece1 =>
    exact group_at m c t _ 2 1024 128 rfl (by omega) (by omega) _ (blk7_hi m c t) (tileB2 _ _) _ _ (by omega) (by omega)
  case piece2 =>
    exact group_at m c t _ 1 896 128 rfl (by omega) (by omega) _ (blk7_hi m c t) (tileB1 _ _) _ _ (by omega) (by omega)
  case piece3 =>
    exact group_at m c t _ 0 768 128 rfl (by omega) (by omega) _ (blk7_hi m c t) (tileB0 _ _) _ _ (by omega) (by omega)

end Cert.AbInIdeal.Hand
-- ==== Proof.AbIn.Ref.lean ====
/-
The reference input projection's results, from scalars: the formulas the kernel is shown to store.
-/
module

public import proofs.«01_k».proof.Proof.Gen.AbInRefIdeal.Read
public import proofs.«01_k».proof.Proof.AbIn.Spec

@[expose] public section

set_option maxRecDepth 16384

noncomputable section

namespace Cert.AbInRefIdeal.Hand

open Cert.AbInRefIdeal Cert.AbInRefIdeal.Gen Cert.AbInRefIdeal.Read Idealize.ShloMosaic Idealize.ShloMosaic.TcCoe Idealize.SL.Sem
open Cert.AbInIdeal.Hand
open Cert.SguIdeal.Hand (hid nrm)

variable (x0 : FVec Ideal S8x4096x1024 .f32) (x1 : FVec Ideal S1024 .f32) (x2 x3 : FVec Ideal S8x1024 .f32)
  (x4 : FVec Ideal S1024x1280 .f32) (x5 x6 : FVec Ideal S4096x16 .f32) (x7 x8 : FVec Ideal S128x128 .f32)

theorem v12_at (b : Fin 8) (s : Fin 4096) (d : Fin 1024) :
    val_main_v12 (F := Ideal) x0 x1 (ix3 b s d) = nrm (fun d => x0 (ix3 b s d)) (fun d => x1 (ix1 d)) d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

/-- The projected columns. -/
theorem v21_at (b : Fin 8) (s : Fin 4096) (f : Fin 1280) :
    val_main_v21 (F := Ideal) x0 x1 x2 x3 x4 (ix3 b s f) = P x0 x1 x2 x3 x4 b s f := by
  pointwise [val_main_v21, val_main_v20, val_main_v19, val_main_v18, val_main_v17, val_main_v16, val_main_v15,
    val_main_v14, val_main_cst_2, val_main_v13, v12_at, P, proj, hid]

/-- The rotated query columns, head by head. -/
theorem q_at (b : Fin 8) (s : Fin 4096) (h : Fin 8) (e : Fin 64) :
    val_main_v68 (F := Ideal) x0 x1 x2 x3 x4 x5 x6 (ix4 b s h e) = R x0 x1 x2 x3 x4 x5 x6 b s ⟨(h : ℕ) * 64 + e, by omega⟩ := by
  pointwise [val_main_v68, val_main_v67, val_main_v66, val_main_v65, val_main_v64, val_main_v63, val_main_v62,
    val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_v22, v21_at]
  unfold R
  refine choice (fun h1 => choice (fun h2 => ?_) fun h2 => ?_) fun h1 => choice (fun h2 => ?_) fun h2 => ?_
  · refine rot_lo _ (fun e => x5 (ix2 s e)) (fun e => x6 (ix2 s e)) _ _ _ _ _ _ _ ?_ ?_ ?_ (eq_angle_lo (fun e => x5 (ix2 s e)) (fun e => x6 (ix2 s e)) _ ?_ _ _ ?_) (eq_angle_lo (fun e => x5 (ix2 s e)) (fun e => x6 (ix2 s e)) _ ?_ _ _ ?_) <;>
      simp only <;> omega
  · refine rot_hi _ (fun e => x5 (ix2 s e)) (fun e => x6 (ix2 s e)) _ _ _ _ _ _ _ ?_ ?_ ?_ (eq_angle_lo (fun e => x5 (ix2 s e)) (fun e => x6 (ix2 s e)) _ ?_ _ _ ?_) (eq_angle_lo (fun e => x5 (ix2 s e)) (fun e => x6 (ix2 s e)) _ ?_ _ _ ?_) <;>
      simp only <;> omega
  · refine rot_lo _ (fun e => x5 (ix2 s e)) (fun e => x6 (ix2 s e)) _ _ _ _ _ _ _ ?_ ?_ ?_ (eq_angle_hi (fun e => x5 (ix2 s e)) (fun e => x6 (ix2 s e)) _ ?_ _ _ ?_) (eq_angle_hi (fun e => x5 (ix2 s e)) (fun e => x6 (ix2 s e)) _ ?_ _ _ ?_) <;>
      simp only <;> omega
  · refine rot_hi _ (fun e => x5 (ix2 s e)) (fun e => x6 (ix2 s e)) _ _ _ _ _ _ _ ?_ ?_ ?_ (eq_angle_hi (fun e => x5 (ix2 s e)) (fun e => x6 (ix2 s e)) _ ?_ _ _ ?_) (eq_angle_hi (fun e => x5 (ix2 s e)) (fun e => x6 (ix2 s e)) _ ?_ _ _ ?_) <;>
      simp only <;> omega

/-- The rotated key columns, head by head. -/
theorem k_at (b : Fin 8) (s : Fin 4096) (h : Fin 2) (e : Fin 64) :
    val_main_v115 (F := Ideal) x0 x1 x2 x3 x4 x5 x6 (ix4 b s h e) = R x0 x1 x2 x3 x4 x5 x6 b s ⟨512 + ((h : ℕ) * 64 + e), by omega⟩ := by
  pointwise [val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v91, val_main_v90, val_main_v89, val_main_v88, val_main_v87, val_main_v86,
    val_main_v85, val_main_v84, val_main_v83, val_main_v82, val_main_v81, val_main_v80, val_main_v79, val_main_v78,
    val_main_v77, val_main_v76, val_main_v75, val_main_v74, val_main_v73, val_main_v72, val_main_v71, val_main_v70,
    val_main_v69, v21_at]
  unfold R
  refine choice (fun h1 => choice (fun h2 => ?_) fun h2 => ?_) fun h1 => choice (fun h2 => ?_) fun h2 => ?_
  · refine rot_lo _ (fun e => x5 (ix2 s e)) (fun e => x6 (ix2 s e)) _ _ _ _ _ _ _ ?_ ?_ ?_ (eq_angle_lo (fun e => x5 (ix2 s e)) (fun e => x6 (ix2 s e)) _ ?_ _ _ ?_) (eq_angle_lo (fun e => x5 (ix2 s e)) (fun e => x6 (ix2 s e)) _ ?_ _ _ ?_) <;>
      simp only <;> omega
  · refine rot_hi _ (fun e => x5 (ix2 s e)) (fun e => x6 (ix2 s e)) _ _ _ _ _ _ _ ?_ ?_ ?_ (eq_angle_lo (fun e => x5 (ix2 s e)) (fun e => x6 (ix2 s e)) _ ?_ _ _ ?_) (eq_angle_lo (fun e => x5 (ix2 s e)) (fun e => x6 (ix2 s e)) _ ?_ _ _ ?_) <;>
      simp only <;> omega
  · refine rot_lo _ (fun e => x5 (ix2 s e)) (fun e => x6 (ix2 s e)) _ _ _ _ _ _ _ ?_ ?_ ?_ (eq_angle_hi (fun e => x5 (ix2 s e)) (fun e => x6 (ix2 s e)) _ ?_ _ _ ?_) (eq_angle_hi (fun e => x5 (ix2 s e)) (fun e => x6 (ix2 s e)) _ ?_ _ _ ?_) <;>
      simp only <;> omega
  · refine rot_hi _ (fun e => x5 (ix2 s e)) (fun e => x6 (ix2 s e)) _ _ _ _ _ _ _ ?_ ?_ ?_ (eq_angle_hi (fun e => x5 (ix2 s e)) (fun e => x6 (ix2 s e)) _ ?_ _ _ ?_) (eq_angle_hi (fun e => x5 (ix2 s e)) (fun e => x6 (ix2 s e)) _ ?_ _ _ ?_) <;>
      simp only <;> omega

/-- The rotated columns, with the heads side by side. -/
theorem q_place (b : Fin 8) (s : Fin 4096) (h : Fin 8) (e : Fin 64) (n : ℕ) (hn : n < 640) (hne : n = (h : ℕ) * 64 + e) :
    val_main_v68 (F := Ideal) x0 x1 x2 x3 x4 x5 x6 (ix4 b s h e) = R x0 x1 x2 x3 x4 x5 x6 b s ⟨n, hn⟩ := by
  subst hne
  exact q_at x0 x1 x2 x3 x4 x5 x6 b s h e

theorem q_split (b : Fin 8) (s : Fin 4096) (j : Fin 512) :
    val_main_v122 (F := Ideal) x0 x1 x2 x3 x4 x5 x6 (ix3 b s j)
      = val_main_v68 (F := Ideal) x0 x1 x2 x3 x4 x5 x6 (ix4 b s ⟨(j : ℕ) / 64, by omega⟩ ⟨(j : ℕ) % 64, by omega⟩) := by
  have e : idx_main_v121 (ix3 b s j) = ix4 b s ⟨(j : ℕ) / 64, by omega⟩ ⟨(j : ℕ) % 64, by omega⟩ := by
    funext a
    match a with
    | 0 => exact Fin.ext (by show (((b : ℕ) * 4096 + s) * 512 + j) / 2097152 = b; omega)
    | 1 => exact Fin.ext (by show (((b : ℕ) * 4096 + s) * 512 + j) / 512 % 4096 = s; omega)
    | 2 => exact Fin.ext (by show (((b : ℕ) * 4096 + s) * 512 + j) / 64 % 8 = j / 64; omega)
    | 3 => exact Fin.ext (by show (((b : ℕ) * 4096 + s) * 512 + j) % 64 = j % 64; omega)
  rw [val_main_v122_apply, val_main_v121_apply, e]
  generalize val_main_v68 (F := Ideal) x0 x1 x2 x3 x4 x5 x6 _ = y
  rfl

theorem value_q : val_main_v122 (F := Ideal) x0 x1 x2 x3 x4 x5 x6 = GQ x0 x1 x2 x3 x4 x5 x6 := by
  funext i
  idx_vars i
  refine (q_split x0 x1 x2 x3 x4 x5 x6 i0 i1 i2).trans ?_
  exact q_place x0 x1 x2 x3 x4 x5 x6 i0 i1 _ _ ((i2 : ℕ)) (by omega) (by simp only; omega)

theorem k_place (b : Fin 8) (s : Fin 4096) (h : Fin 2) (e : Fin 64) (n : ℕ) (hn : n < 640) (hne : n = 512 + ((h : ℕ) * 64 + e)) :
    val_main_v115 (F := Ideal) x0 x1 x2 x3 x4 x5 x6 (ix4 b s h e) = R x0 x1 x2 x3 x4 x5 x6 b s ⟨n, hn⟩ := by
  subst hne
  exact k_at x0 x1 x2 x3 x4 x5 x6 b s h e

theorem k_split (b : Fin 8) (s : Fin 4096) (j : Fin 128) :
    val_main_v124 (F := Ideal) x0 x1 x2 x3 x4 x5 x6 (ix3 b s j)
      = val_main_v115 (F := Ideal) x0 x1 x2 x3 x4 x5 x6 (ix4 b s ⟨(j : ℕ) / 64, by omega⟩ ⟨(j : ℕ) % 64, by omega⟩) := by
  have e : idx_main_v123 (ix3 b s j) = ix4 b s ⟨(j : ℕ) / 64, by omega⟩ ⟨(j : ℕ) % 64, by omega⟩ := by
    funext a
    match a with
    | 0 => exact Fin.ext (by show (((b : ℕ) * 4096 + s) * 128 + j) / 524288 = b; omega)
    | 1 => exact Fin.ext (by show (((b : ℕ) * 4096 + s) * 128 + j) / 128 % 4096 = s; omega)
    | 2 => exact Fin.ext (by show (((b : ℕ) * 4096 + s) * 128 + j) / 64 % 2 = j / 64; omega)
    | 3 => exact Fin.ext (by show (((b : ℕ) * 4096 + s) * 128 + j) % 64 = j % 64; omega)
  rw [val_main_v124_apply, val_main_v123_apply, e]
  generalize val_main_v115 (F := Ideal) x0 x1 x2 x3 x4 x5 x6 _ = y
  rfl

theorem value_k : val_main_v124 (F := Ideal) x0 x1 x2 x3 x4 x5 x6 = GK x0 x1 x2 x3 x4 x5 x6 := by
  funext i
  idx_vars i
  refine (k_split x0 x1 x2 x3 x4 x5 x6 i0 i1 i2).trans ?_
  exact k_place x0 x1 x2 x3 x4 x5 x6 i0 i1 _ _ (512 + (i2 : ℕ)) (by omega) (by simp only; omega)

/-- The values, and the Fourier columns against each table. -/
theorem value_v : val_main_v125 (F := Ideal) x0 x1 x2 x3 x4 = GV x0 x1 x2 x3 x4 := by
  funext i
  idx_vars i
  pointwise [val_main_v125, val_main_v116, v21_at]
  rfl

theorem value_a : val_main_v127 (F := Ideal) x0 x1 x2 x3 x4 x7 = GF x0 x1 x2 x3 x4 x7 := by
  funext i
  idx_vars i
  pointwise [val_main_v127, val_main_v126, val_main_v119, val_main_v118, val_main_v117, v21_at]
  rfl

theorem value_b : val_main_v129 (F := Ideal) x0 x1 x2 x3 x4 x8 = GF x0 x1 x2 x3 x4 x8 := by
  funext i
  idx_vars i
  pointwise [val_main_v129, val_main_v128, val_main_v120, val_main_v118, val_main_v117, v21_at]
  rfl

end Cert.AbInRefIdeal.Hand
-- ==== Proof.AbIn.Claims.lean ====
/-
The claims of the input projection, in the order in which the certificate states them.
-/
module

public import proofs.«01_k».proof.Defs
public import proofs.«01_k».proof.Proof.Gen.AbIn.Frame
public import proofs.«01_k».proof.Proof.AbIn.Value
public import proofs.«01_k».proof.Proof.AbIn.Ref
public import Idealize.ShloMosaic.Lib.Claim

@[expose] public section

set_option maxRecDepth 16384

noncomputable section

namespace Cert.AbInClaims

open Idealize.ShloMosaic Idealize.ShloMosaic.TcCoe Idealize.SL.Sem

/-- The projection's kernel stops without fault and leaves its arguments and the counters as they were. -/
theorem frame_p : Cert.quiescent_AbIn := fun m ρ _ => Cert.AbIn.Gen.frame m ρ

/-- The same of the kernel over the extended reals. -/
theorem frame_pi : Cert.quiescent_AbInIdeal := fun m ρ _ => Cert.AbInIdeal.Gen.frame m ρ

/-- The same of the reference over the extended reals. -/
theorem frame_ri : Cert.quiescent_AbInRefIdeal := fun m ρ _ =>
  (θ_run Cert.AbInRefIdeal.defs _ _).mono (fun r h => ⟨fun c => (h c).2.2.2.2.2, sem_eq_zero_of_no_sems (by decide) r.2⟩)
    (Cert.AbInRefIdeal.Value.run (F := Ideal) m ρ)

set_option maxHeartbeats 2000000 in
/-- Kernel and reference leave the same five arrays: both leave the formulas of their arguments. -/
theorem algebraic : Cert.algebraic_AbInIdeal_AbInRefIdeal := by
  pair_intro
  · run_from Cert.AbInIdeal.Gen.run_main m g
  · run_from Cert.AbInRefIdeal.Value.run m' g'
    · rw [Cert.AbInRefIdeal.Read.val_main_v122_eq]
      refine (Cert.AbInRefIdeal.Hand.value_q _ _ _ _ _ _ _).trans (Eq.trans ?_ (Cert.AbInIdeal.Hand.final_q m c).symm)
      simp only [hagree c]
    · rw [Cert.AbInRefIdeal.Read.val_main_v124_eq]
      refine (Cert.AbInRefIdeal.Hand.value_k _ _ _ _ _ _ _).trans (Eq.trans ?_ (Cert.AbInIdeal.Hand.final_k m c).symm)
      simp only [hagree c]
    · rw [Cert.AbInRefIdeal.Read.val_main_v125_eq]
      exact (Cert.AbInRefIdeal.Hand.value_v _ _ _ _ _).trans (Cert.AbInIdeal.Hand.final_v m c).symm
    · rw [Cert.AbInRefIdeal.Read.val_main_v127_eq]
      exact (Cert.AbInRefIdeal.Hand.value_a _ _ _ _ _ _).trans (Cert.AbInIdeal.Hand.final_a m c).symm
    · rw [Cert.AbInRefIdeal.Read.val_main_v129_eq]
      exact (Cert.AbInRefIdeal.Hand.value_b _ _ _ _ _ _).trans (Cert.AbInIdeal.Hand.final_b m c).symm

end Cert.AbInClaims
-- ==== Proof.lean ====
/-
The certificate: the claims of each call, assembled behind the witnesses of the programs' stated facts.
-/
module

public import proofs.«01_k».proof.Defs
public import proofs.«01_k».proof.Proof.Attn.Claims
public import proofs.«01_k».proof.Proof.Sgu.Claims
public import proofs.«01_k».proof.Proof.AbOut.Claims
public import proofs.«01_k».proof.Proof.FinalNorm.Claims
public import proofs.«01_k».proof.Proof.AbIn.Claims

@[expose] public section

noncomputable section

namespace Cert.Proof

/-- Everything that the certificate states. -/
theorem claim : Cert.Claim :=
  ⟨Cert.Attn.Gen.facts, Cert.AttnIdeal.Gen.facts, Cert.AttnRefIdeal.Gen.facts,
    Cert.Sgu.Gen.facts, Cert.SguIdeal.Gen.facts, Cert.SguRefIdeal.Gen.facts,
    Cert.AbOut.Gen.facts, Cert.AbOutIdeal.Gen.facts, Cert.AbOutRefIdeal.Gen.facts,
    Cert.FinalNorm.Gen.facts, Cert.FinalNormIdeal.Gen.facts, Cert.FinalNormRefIdeal.Gen.facts,
    Cert.AbIn.Gen.facts, Cert.AbInIdeal.Gen.facts, Cert.AbInRefIdeal.Gen.facts,
    AttnClaims.frame_p, AttnClaims.frame_pi, AttnClaims.frame_ri,
    SguClaims.frame_p, SguClaims.frame_pi, SguClaims.frame_ri,
    AbOutClaims.frame_p, AbOutClaims.frame_pi, AbOutClaims.frame_ri,
    FinalNormClaims.frame_p, FinalNormClaims.frame_pi, FinalNormClaims.frame_ri,
    AbInClaims.frame_p, AbInClaims.frame_pi, AbInClaims.frame_ri,
    AttnClaims.preserves, AttnClaims.algebraic, trivial, SguClaims.algebraic,
    trivial, AbOutClaims.algebraic, trivial, FinalNormClaims.algebraic,
    trivial, AbInClaims.algebraic⟩
end Cert.Proof

end
